-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S8192x512 : Shape := ⟨2, ![8192, 512]⟩
abbrev S3x4 : Shape := ⟨2, ![3, 4]⟩
abbrev S_ : Shape := ⟨0, ![]⟩
abbrev S1x1 : Shape := ⟨2, ![1, 1]⟩
abbrev S256x512 : Shape := ⟨2, ![256, 512]⟩
abbrev S336x512 : Shape := ⟨2, ![336, 512]⟩
abbrev S344x512 : Shape := ⟨2, ![344, 512]⟩

abbrev nBuf : Space → Nat
  | .hbm => 2
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S8192x512, .f32⟩
  | _, _ => ⟨S1024x512, .f32⟩

abbrev bufScoped : (cs : CoreSpace) → Fin (nBuf (.core cs)) → Bool
  | _, _ => false

abbrev semScoped : Fin 1 → Bool
  | ⟨0, _⟩ => false
  | _ => false

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  (ofTc nBuf bufTy 1 73 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_12 : BitVec 32 := 4#32
  let v27 : BitVec 1 := Scalar.cmpi .slt v26 c4_i32_12
  let c11_i32_13 : BitVec 32 := 11#32
  let v28 : BitVec 32 := Scalar.subi c11_i32_13 v26
  let v29 : BitVec 32 := Scalar.select v27 v26 v28
  let c1_i32_39 : BitVec 32 := 1#32
  let v72 : BitVec 32 := Scalar.muli v29 c1_i32_39
  let v73 : BitVec 32 := Scalar.addi c0_i32_40 v72
  v73.toNat
def k0_dev2 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_14 : BitVec 32 := 1#32
  let v30 : BitVec 32 := Scalar.subi v15 c1_i32_14
  let c8_i32_15 : BitVec 32 := 8#32
  let c0_i32_16 : BitVec 32 := 0#32
  let v31 : BitVec 1 := Scalar.cmpi .eq c8_i32_15 c0_i32_16
  let c1_i32_17 : BitVec 32 := 1#32
  let v32 : BitVec 32 := Scalar.select v31 c1_i32_17 c8_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c4_i32_21 : BitVec 32 := 4#32
  let v41 : BitVec 1 := Scalar.cmpi .slt v40 c4_i32_21
  let c11_i32_22 : BitVec 32 := 11#32
  let v42 : BitVec 32 := Scalar.subi c11_i32_22 v40
  let v43 : BitVec 32 := Scalar.select v41 v40 v42
  let c1_i32_42 : BitVec 32 := 1#32
  let v74 : BitVec 32 := Scalar.muli v43 c1_i32_42
  let v75 : BitVec 32 := Scalar.addi c0_i32_43 v74
  v75.toNat
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c3_i32 : BitVec 32 := 3#32
  let c2_i32 : BitVec 32 := 2#32
  let c0_i32_23 : BitVec 32 := 0#32
  let v44 : BitVec 1 := Scalar.cmpi .eq c2_i32 c0_i32_23
  let c1_i32_24 : BitVec 32 := 1#32
  let v45 : BitVec 32 := Scalar.select v44 c1_i32_24 c2_i32
  let v46 : BitVec 32 := Scalar.remsi v15 v45
  let c0_i32_26 : BitVec 32 := 0#32
  let v48 : BitVec 1 := Scalar.cmpi .slt v46 c0_i32_26
  let c0_i32_27 : BitVec 32 := 0#32
  let v49 : BitVec 1 := Scalar.cmpi .slt v45 c0_i32_27
  let v50 : BitVec 1 := Scalar.xori v48 v49
  let c0_i32_25 : BitVec 32 := 0#32
  let v47 : BitVec 1 := Scalar.cmpi .ne v46 c0_i32_25
  let v51 : BitVec 1 := Scalar.andi v50 v47
  let v52 : BitVec 32 := Scalar.addi v46 v45
  let v53 : BitVec 32 := Scalar.select v51 v52 v46
  let c1_i32_28 : BitVec 32 := 1#32
  let v54 : BitVec 1 := Scalar.cmpi .eq v53 c1_i32_28
  let c1_i32_29 : BitVec 32 := 1#32
  let c_m1_i32 : BitVec 32 := 4294967295#32
  let v55 : BitVec 32 := Scalar.select v54 c1_i32_29 c_m1_i32
  let v56 : BitVec 32 := Scalar.muli c3_i32 v55
  let v57 : BitVec 32 := Scalar.subi v15 v56
  let c8_i32_30 : BitVec 32 := 8#32
  let c0_i32_31 : BitVec 32 := 0#32
  let v58 : BitVec 1 := Scalar.cmpi .eq c8_i32_30 c0_i32_31
  let c1_i32_32 : BitVec 32 := 1#32
  let v59 : BitVec 32 := Scalar.select v58 c1_i32_32 c8_i32_30
  let v60 : BitVec 32 := Scalar.remsi v57 v59
  let c0_i32_34 : BitVec 32 := 0#32
  let v62 : BitVec 1 := Scalar.cmpi .slt v60 c0_i32_34
  let c0_i32_35 : BitVec 32 := 0#32
  let v63 : BitVec 1 := Scalar.cmpi .slt v59 c0_i32_35
  let v64 : BitVec 1 := Scalar.xori v62 v63
  let c0_i32_33 : BitVec 32 := 0#32
  let v61 : BitVec 1 := Scalar.cmpi .ne v60 c0_i32_33
  let v65 : BitVec 1 := Scalar.andi v64 v61
  let v66 : BitVec 32 := Scalar.addi v60 v59
  let v67 : BitVec 32 := Scalar.select v65 v66 v60
  let c4_i32_36 : BitVec 32 := 4#32
  let v68 : BitVec 1 := Scalar.cmpi .slt v67 c4_i32_36
  let c11_i32_37 : BitVec 32 := 11#32
  let v69 : BitVec 32 := Scalar.subi c11_i32_37 v67
  let v70 : BitVec 32 := Scalar.select v68 v67 v69
  let c1_i32_45 : BitVec 32 := 1#32
  let v76 : BitVec 32 := Scalar.muli v70 c1_i32_45
  let v77 : BitVec 32 := Scalar.addi c0_i32_46 v76
  v77.toNat
def k0_off1 (d0 : Dev nD) (c0_i32_48 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32 : BitVec 32 := 1024#32
  let v78 : BitVec 32 := Scalar.muli v2 c1024_i32
  let v79 : BitVec 32 := Scalar.addi v78 c0_i32_48
  let c0_i32_238 : BitVec 32 := 0#32
  ![v79.toNat, 0]
def k0_dev4 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_12 : BitVec 32 := 4#32
  let v27 : BitVec 1 := Scalar.cmpi .slt v26 c4_i32_12
  let c11_i32_13 : BitVec 32 := 11#32
  let v28 : BitVec 32 := Scalar.subi c11_i32_13 v26
  let v29 : BitVec 32 := Scalar.select v27 v26 v28
  let c1_i32_236 : BitVec 32 := 1#32
  let v349 : BitVec 32 := Scalar.muli v29 c1_i32_236
  let v350 : BitVec 32 := Scalar.addi c0_i32_237 v349
  v350.toNat
def k0_dev5 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_14 : BitVec 32 := 1#32
  let v30 : BitVec 32 := Scalar.subi v15 c1_i32_14
  let c8_i32_15 : BitVec 32 := 8#32
  let c0_i32_16 : BitVec 32 := 0#32
  let v31 : BitVec 1 := Scalar.cmpi .eq c8_i32_15 c0_i32_16
  let c1_i32_17 : BitVec 32 := 1#32
  let v32 : BitVec 32 := Scalar.select v31 c1_i32_17 c8_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c4_i32_21 : BitVec 32 := 4#32
  let v41 : BitVec 1 := Scalar.cmpi .slt v40 c4_i32_21
  let c11_i32_22 : BitVec 32 := 11#32
  let v42 : BitVec 32 := Scalar.subi c11_i32_22 v40
  let v43 : BitVec 32 := Scalar.select v41 v40 v42
  let c1_i32_245 : BitVec 32 := 1#32
  let v357 : BitVec 32 := Scalar.muli v43 c1_i32_245
  let v358 : BitVec 32 := Scalar.addi c0_i32_246 v357
  v358.toNat
def k0_dev6 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c3_i32 : BitVec 32 := 3#32
  let c2_i32 : BitVec 32 := 2#32
  let c0_i32_23 : BitVec 32 := 0#32
  let v44 : BitVec 1 := Scalar.cmpi .eq c2_i32 c0_i32_23
  let c1_i32_24 : BitVec 32 := 1#32
  let v45 : BitVec 32 := Scalar.select v44 c1_i32_24 c2_i32
  let v46 : BitVec 32 := Scalar.remsi v15 v45
  let c0_i32_26 : BitVec 32 := 0#32
  let v48 : BitVec 1 := Scalar.cmpi .slt v46 c0_i32_26
  let c0_i32_27 : BitVec 32 := 0#32
  let v49 : BitVec 1 := Scalar.cmpi .slt v45 c0_i32_27
  let v50 : BitVec 1 := Scalar.xori v48 v49
  let c0_i32_25 : BitVec 32 := 0#32
  let v47 : BitVec 1 := Scalar.cmpi .ne v46 c0_i32_25
  let v51 : BitVec 1 := Scalar.andi v50 v47
  let v52 : BitVec 32 := Scalar.addi v46 v45
  let v53 : BitVec 32 := Scalar.select v51 v52 v46
  let c1_i32_28 : BitVec 32 := 1#32
  let v54 : BitVec 1 := Scalar.cmpi .eq v53 c1_i32_28
  let c1_i32_29 : BitVec 32 := 1#32
  let c_m1_i32 : BitVec 32 := 4294967295#32
  let v55 : BitVec 32 := Scalar.select v54 c1_i32_29 c_m1_i32
  let v56 : BitVec 32 := Scalar.muli c3_i32 v55
  let v57 : BitVec 32 := Scalar.subi v15 v56
  let c8_i32_30 : BitVec 32 := 8#32
  let c0_i32_31 : BitVec 32 := 0#32
  let v58 : BitVec 1 := Scalar.cmpi .eq c8_i32_30 c0_i32_31
  let c1_i32_32 : BitVec 32 := 1#32
  let v59 : BitVec 32 := Scalar.select v58 c1_i32_32 c8_i32_30
  let v60 : BitVec 32 := Scalar.remsi v57 v59
  let c0_i32_34 : BitVec 32 := 0#32
  let v62 : BitVec 1 := Scalar.cmpi .slt v60 c0_i32_34
  let c0_i32_35 : BitVec 32 := 0#32
  let v63 : BitVec 1 := Scalar.cmpi .slt v59 c0_i32_35
  let v64 : BitVec 1 := Scalar.xori v62 v63
  let c0_i32_33 : BitVec 32 := 0#32
  let v61 : BitVec 1 := Scalar.cmpi .ne v60 c0_i32_33
  let v65 : BitVec 1 := Scalar.andi v64 v61
  let v66 : BitVec 32 := Scalar.addi v60 v59
  let v67 : BitVec 32 := Scalar.select v65 v66 v60
  let c4_i32_36 : BitVec 32 := 4#32
  let v68 : BitVec 1 := Scalar.cmpi .slt v67 c4_i32_36
  let c11_i32_37 : BitVec 32 := 11#32
  let v69 : BitVec 32 := Scalar.subi c11_i32_37 v67
  let v70 : BitVec 32 := Scalar.select v68 v67 v69
  let c1_i32_254 : BitVec 32 := 1#32
  let v365 : BitVec 32 := Scalar.muli v70 c1_i32_254
  let v366 : BitVec 32 := Scalar.addi c0_i32_255 v365
  v366.toNat
def k0_dev7 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_12 : BitVec 32 := 4#32
  let v27 : BitVec 1 := Scalar.cmpi .slt v26 c4_i32_12
  let c11_i32_13 : BitVec 32 := 11#32
  let v28 : BitVec 32 := Scalar.subi c11_i32_13 v26
  let v29 : BitVec 32 := Scalar.select v27 v26 v28
  let c1_i32_263 : BitVec 32 := 1#32
  let v373 : BitVec 32 := Scalar.muli v29 c1_i32_263
  let v374 : BitVec 32 := Scalar.addi c0_i32_264 v373
  v374.toNat
def k0_dev8 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_14 : BitVec 32 := 1#32
  let v30 : BitVec 32 := Scalar.subi v15 c1_i32_14
  let c8_i32_15 : BitVec 32 := 8#32
  let c0_i32_16 : BitVec 32 := 0#32
  let v31 : BitVec 1 := Scalar.cmpi .eq c8_i32_15 c0_i32_16
  let c1_i32_17 : BitVec 32 := 1#32
  let v32 : BitVec 32 := Scalar.select v31 c1_i32_17 c8_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c4_i32_21 : BitVec 32 := 4#32
  let v41 : BitVec 1 := Scalar.cmpi .slt v40 c4_i32_21
  let c11_i32_22 : BitVec 32 := 11#32
  let v42 : BitVec 32 := Scalar.subi c11_i32_22 v40
  let v43 : BitVec 32 := Scalar.select v41 v40 v42
  let c1_i32_272 : BitVec 32 := 1#32
  let v381 : BitVec 32 := Scalar.muli v43 c1_i32_272
  let v382 : BitVec 32 := Scalar.addi c0_i32_273 v381
  v382.toNat
def k0_dev9 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c3_i32 : BitVec 32 := 3#32
  let c2_i32 : BitVec 32 := 2#32
  let c0_i32_23 : BitVec 32 := 0#32
  let v44 : BitVec 1 := Scalar.cmpi .eq c2_i32 c0_i32_23
  let c1_i32_24 : BitVec 32 := 1#32
  let v45 : BitVec 32 := Scalar.select v44 c1_i32_24 c2_i32
  let v46 : BitVec 32 := Scalar.remsi v15 v45
  let c0_i32_26 : BitVec 32 := 0#32
  let v48 : BitVec 1 := Scalar.cmpi .slt v46 c0_i32_26
  let c0_i32_27 : BitVec 32 := 0#32
  let v49 : BitVec 1 := Scalar.cmpi .slt v45 c0_i32_27
  let v50 : BitVec 1 := Scalar.xori v48 v49
  let c0_i32_25 : BitVec 32 := 0#32
  let v47 : BitVec 1 := Scalar.cmpi .ne v46 c0_i32_25
  let v51 : BitVec 1 := Scalar.andi v50 v47
  let v52 : BitVec 32 := Scalar.addi v46 v45
  let v53 : BitVec 32 := Scalar.select v51 v52 v46
  let c1_i32_28 : BitVec 32 := 1#32
  let v54 : BitVec 1 := Scalar.cmpi .eq v53 c1_i32_28
  let c1_i32_29 : BitVec 32 := 1#32
  let c_m1_i32 : BitVec 32 := 4294967295#32
  let v55 : BitVec 32 := Scalar.select v54 c1_i32_29 c_m1_i32
  let v56 : BitVec 32 := Scalar.muli c3_i32 v55
  let v57 : BitVec 32 := Scalar.subi v15 v56
  let c8_i32_30 : BitVec 32 := 8#32
  let c0_i32_31 : BitVec 32 := 0#32
  let v58 : BitVec 1 := Scalar.cmpi .eq c8_i32_30 c0_i32_31
  let c1_i32_32 : BitVec 32 := 1#32
  let v59 : BitVec 32 := Scalar.select v58 c1_i32_32 c8_i32_30
  let v60 : BitVec 32 := Scalar.remsi v57 v59
  let c0_i32_34 : BitVec 32 := 0#32
  let v62 : BitVec 1 := Scalar.cmpi .slt v60 c0_i32_34
  let c0_i32_35 : BitVec 32 := 0#32
  let v63 : BitVec 1 := Scalar.cmpi .slt v59 c0_i32_35
  let v64 : BitVec 1 := Scalar.xori v62 v63
  let c0_i32_33 : BitVec 32 := 0#32
  let v61 : BitVec 1 := Scalar.cmpi .ne v60 c0_i32_33
  let v65 : BitVec 1 := Scalar.andi v64 v61
  let v66 : BitVec 32 := Scalar.addi v60 v59
  let v67 : BitVec 32 := Scalar.select v65 v66 v60
  let c4_i32_36 : BitVec 32 := 4#32
  let v68 : BitVec 1 := Scalar.cmpi .slt v67 c4_i32_36
  let c11_i32_37 : BitVec 32 := 11#32
  let v69 : BitVec 32 := Scalar.subi c11_i32_37 v67
  let v70 : BitVec 32 := Scalar.select v68 v67 v69
  let c1_i32_281 : BitVec 32 := 1#32
  let v389 : BitVec 32 := Scalar.muli v70 c1_i32_281
  let v390 : BitVec 32 := Scalar.addi c0_i32_282 v389
  v390.toNat
def k0_dev10 (d0 : Dev nD) : Nat :=
  let c0_i32_291 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_12 : BitVec 32 := 4#32
  let v27 : BitVec 1 := Scalar.cmpi .slt v26 c4_i32_12
  let c11_i32_13 : BitVec 32 := 11#32
  let v28 : BitVec 32 := Scalar.subi c11_i32_13 v26
  let v29 : BitVec 32 := Scalar.select v27 v26 v28
  let c1_i32_290 : BitVec 32 := 1#32
  let v397 : BitVec 32 := Scalar.muli v29 c1_i32_290
  let v398 : BitVec 32 := Scalar.addi c0_i32_291 v397
  v398.toNat
def k0_dev11 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_14 : BitVec 32 := 1#32
  let v30 : BitVec 32 := Scalar.subi v15 c1_i32_14
  let c8_i32_15 : BitVec 32 := 8#32
  let c0_i32_16 : BitVec 32 := 0#32
  let v31 : BitVec 1 := Scalar.cmpi .eq c8_i32_15 c0_i32_16
  let c1_i32_17 : BitVec 32 := 1#32
  let v32 : BitVec 32 := Scalar.select v31 c1_i32_17 c8_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c4_i32_21 : BitVec 32 := 4#32
  let v41 : BitVec 1 := Scalar.cmpi .slt v40 c4_i32_21
  let c11_i32_22 : BitVec 32 := 11#32
  let v42 : BitVec 32 := Scalar.subi c11_i32_22 v40
  let v43 : BitVec 32 := Scalar.select v41 v40 v42
  let c1_i32_299 : BitVec 32 := 1#32
  let v405 : BitVec 32 := Scalar.muli v43 c1_i32_299
  let v406 : BitVec 32 := Scalar.addi c0_i32_300 v405
  v406.toNat
def k0_dev12 (d0 : Dev nD) : Nat :=
  let c0_i32_309 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c3_i32 : BitVec 32 := 3#32
  let c2_i32 : BitVec 32 := 2#32
  let c0_i32_23 : BitVec 32 := 0#32
  let v44 : BitVec 1 := Scalar.cmpi .eq c2_i32 c0_i32_23
  let c1_i32_24 : BitVec 32 := 1#32
  let v45 : BitVec 32 := Scalar.select v44 c1_i32_24 c2_i32
  let v46 : BitVec 32 := Scalar.remsi v15 v45
  let c0_i32_26 : BitVec 32 := 0#32
  let v48 : BitVec 1 := Scalar.cmpi .slt v46 c0_i32_26
  let c0_i32_27 : BitVec 32 := 0#32
  let v49 : BitVec 1 := Scalar.cmpi .slt v45 c0_i32_27
  let v50 : BitVec 1 := Scalar.xori v48 v49
  let c0_i32_25 : BitVec 32 := 0#32
  let v47 : BitVec 1 := Scalar.cmpi .ne v46 c0_i32_25
  let v51 : BitVec 1 := Scalar.andi v50 v47
  let v52 : BitVec 32 := Scalar.addi v46 v45
  let v53 : BitVec 32 := Scalar.select v51 v52 v46
  let c1_i32_28 : BitVec 32 := 1#32
  let v54 : BitVec 1 := Scalar.cmpi .eq v53 c1_i32_28
  let c1_i32_29 : BitVec 32 := 1#32
  let c_m1_i32 : BitVec 32 := 4294967295#32
  let v55 : BitVec 32 := Scalar.select v54 c1_i32_29 c_m1_i32
  let v56 : BitVec 32 := Scalar.muli c3_i32 v55
  let v57 : BitVec 32 := Scalar.subi v15 v56
  let c8_i32_30 : BitVec 32 := 8#32
  let c0_i32_31 : BitVec 32 := 0#32
  let v58 : BitVec 1 := Scalar.cmpi .eq c8_i32_30 c0_i32_31
  let c1_i32_32 : BitVec 32 := 1#32
  let v59 : BitVec 32 := Scalar.select v58 c1_i32_32 c8_i32_30
  let v60 : BitVec 32 := Scalar.remsi v57 v59
  let c0_i32_34 : BitVec 32 := 0#32
  let v62 : BitVec 1 := Scalar.cmpi .slt v60 c0_i32_34
  let c0_i32_35 : BitVec 32 := 0#32
  let v63 : BitVec 1 := Scalar.cmpi .slt v59 c0_i32_35
  let v64 : BitVec 1 := Scalar.xori v62 v63
  let c0_i32_33 : BitVec 32 := 0#32
  let v61 : BitVec 1 := Scalar.cmpi .ne v60 c0_i32_33
  let v65 : BitVec 1 := Scalar.andi v64 v61
  let v66 : BitVec 32 := Scalar.addi v60 v59
  let v67 : BitVec 32 := Scalar.select v65 v66 v60
  let c4_i32_36 : BitVec 32 := 4#32
  let v68 : BitVec 1 := Scalar.cmpi .slt v67 c4_i32_36
  let c11_i32_37 : BitVec 32 := 11#32
  let v69 : BitVec 32 := Scalar.subi c11_i32_37 v67
  let v70 : BitVec 32 := Scalar.select v68 v67 v69
  let c1_i32_308 : BitVec 32 := 1#32
  let v413 : BitVec 32 := Scalar.muli v70 c1_i32_308
  let v414 : BitVec 32 := Scalar.addi c0_i32_309 v413
  v414.toNat
def k0_dev13 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_12 : BitVec 32 := 4#32
  let v27 : BitVec 1 := Scalar.cmpi .slt v26 c4_i32_12
  let c11_i32_13 : BitVec 32 := 11#32
  let v28 : BitVec 32 := Scalar.subi c11_i32_13 v26
  let v29 : BitVec 32 := Scalar.select v27 v26 v28
  let c1_i32_317 : BitVec 32 := 1#32
  let v421 : BitVec 32 := Scalar.muli v29 c1_i32_317
  let v422 : BitVec 32 := Scalar.addi c0_i32_318 v421
  v422.toNat
def k0_dev14 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_14 : BitVec 32 := 1#32
  let v30 : BitVec 32 := Scalar.subi v15 c1_i32_14
  let c8_i32_15 : BitVec 32 := 8#32
  let c0_i32_16 : BitVec 32 := 0#32
  let v31 : BitVec 1 := Scalar.cmpi .eq c8_i32_15 c0_i32_16
  let c1_i32_17 : BitVec 32 := 1#32
  let v32 : BitVec 32 := Scalar.select v31 c1_i32_17 c8_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c4_i32_21 : BitVec 32 := 4#32
  let v41 : BitVec 1 := Scalar.cmpi .slt v40 c4_i32_21
  let c11_i32_22 : BitVec 32 := 11#32
  let v42 : BitVec 32 := Scalar.subi c11_i32_22 v40
  let v43 : BitVec 32 := Scalar.select v41 v40 v42
  let c1_i32_326 : BitVec 32 := 1#32
  let v429 : BitVec 32 := Scalar.muli v43 c1_i32_326
  let v430 : BitVec 32 := Scalar.addi c0_i32_327 v429
  v430.toNat
def k0_dev15 (d0 : Dev nD) : Nat :=
  let c0_i32_336 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c3_i32 : BitVec 32 := 3#32
  let c2_i32 : BitVec 32 := 2#32
  let c0_i32_23 : BitVec 32 := 0#32
  let v44 : BitVec 1 := Scalar.cmpi .eq c2_i32 c0_i32_23
  let c1_i32_24 : BitVec 32 := 1#32
  let v45 : BitVec 32 := Scalar.select v44 c1_i32_24 c2_i32
  let v46 : BitVec 32 := Scalar.remsi v15 v45
  let c0_i32_26 : BitVec 32 := 0#32
  let v48 : BitVec 1 := Scalar.cmpi .slt v46 c0_i32_26
  let c0_i32_27 : BitVec 32 := 0#32
  let v49 : BitVec 1 := Scalar.cmpi .slt v45 c0_i32_27
  let v50 : BitVec 1 := Scalar.xori v48 v49
  let c0_i32_25 : BitVec 32 := 0#32
  let v47 : BitVec 1 := Scalar.cmpi .ne v46 c0_i32_25
  let v51 : BitVec 1 := Scalar.andi v50 v47
  let v52 : BitVec 32 := Scalar.addi v46 v45
  let v53 : BitVec 32 := Scalar.select v51 v52 v46
  let c1_i32_28 : BitVec 32 := 1#32
  let v54 : BitVec 1 := Scalar.cmpi .eq v53 c1_i32_28
  let c1_i32_29 : BitVec 32 := 1#32
  let c_m1_i32 : BitVec 32 := 4294967295#32
  let v55 : BitVec 32 := Scalar.select v54 c1_i32_29 c_m1_i32
  let v56 : BitVec 32 := Scalar.muli c3_i32 v55
  let v57 : BitVec 32 := Scalar.subi v15 v56
  let c8_i32_30 : BitVec 32 := 8#32
  let c0_i32_31 : BitVec 32 := 0#32
  let v58 : BitVec 1 := Scalar.cmpi .eq c8_i32_30 c0_i32_31
  let c1_i32_32 : BitVec 32 := 1#32
  let v59 : BitVec 32 := Scalar.select v58 c1_i32_32 c8_i32_30
  let v60 : BitVec 32 := Scalar.remsi v57 v59
  let c0_i32_34 : BitVec 32 := 0#32
  let v62 : BitVec 1 := Scalar.cmpi .slt v60 c0_i32_34
  let c0_i32_35 : BitVec 32 := 0#32
  let v63 : BitVec 1 := Scalar.cmpi .slt v59 c0_i32_35
  let v64 : BitVec 1 := Scalar.xori v62 v63
  let c0_i32_33 : BitVec 32 := 0#32
  let v61 : BitVec 1 := Scalar.cmpi .ne v60 c0_i32_33
  let v65 : BitVec 1 := Scalar.andi v64 v61
  let v66 : BitVec 32 := Scalar.addi v60 v59
  let v67 : BitVec 32 := Scalar.select v65 v66 v60
  let c4_i32_36 : BitVec 32 := 4#32
  let v68 : BitVec 1 := Scalar.cmpi .slt v67 c4_i32_36
  let c11_i32_37 : BitVec 32 := 11#32
  let v69 : BitVec 32 := Scalar.subi c11_i32_37 v67
  let v70 : BitVec 32 := Scalar.select v68 v67 v69
  let c1_i32_335 : BitVec 32 := 1#32
  let v437 : BitVec 32 := Scalar.muli v70 c1_i32_335
  let v438 : BitVec 32 := Scalar.addi c0_i32_336 v437
  v438.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_340 : BitVec 32 := 1024#32
  let v445 : BitVec 32 := Scalar.muli v2 c1024_i32_340
  let c0_i32_341 : BitVec 32 := 0#32
  ![v445.toNat, 0]
def k0_off3 (d0 : Dev nD) (c0_i32_78 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_68 : BitVec 32 := 1#32
  let v102 : BitVec 32 := Scalar.subi v15 c1_i32_68
  let c8_i32_69 : BitVec 32 := 8#32
  let c0_i32_70 : BitVec 32 := 0#32
  let v103 : BitVec 1 := Scalar.cmpi .eq c8_i32_69 c0_i32_70
  let c1_i32_71 : BitVec 32 := 1#32
  let v104 : BitVec 32 := Scalar.select v103 c1_i32_71 c8_i32_69
  let v105 : BitVec 32 := Scalar.remsi v102 v104
  let c0_i32_73 : BitVec 32 := 0#32
  let v107 : BitVec 1 := Scalar.cmpi .slt v105 c0_i32_73
  let c0_i32_74 : BitVec 32 := 0#32
  let v108 : BitVec 1 := Scalar.cmpi .slt v104 c0_i32_74
  let v109 : BitVec 1 := Scalar.xori v107 v108
  let c0_i32_72 : BitVec 32 := 0#32
  let v106 : BitVec 1 := Scalar.cmpi .ne v105 c0_i32_72
  let v110 : BitVec 1 := Scalar.andi v109 v106
  let v111 : BitVec 32 := Scalar.addi v105 v104
  let v112 : BitVec 32 := Scalar.select v110 v111 v105
  let c4_i32_75 : BitVec 32 := 4#32
  let v113 : BitVec 1 := Scalar.cmpi .slt v112 c4_i32_75
  let c11_i32_76 : BitVec 32 := 11#32
  let v114 : BitVec 32 := Scalar.subi c11_i32_76 v112
  let v115 : BitVec 32 := Scalar.select v113 v112 v114
  let c1024_i32_77 : BitVec 32 := 1024#32
  let v116 : BitVec 32 := Scalar.muli v115 c1024_i32_77
  let v117 : BitVec 32 := Scalar.addi v116 c0_i32_78
  let c0_i32_357 : BitVec 32 := 0#32
  ![v117.toNat, 0]
def k0_dev16 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_12 : BitVec 32 := 4#32
  let v27 : BitVec 1 := Scalar.cmpi .slt v26 c4_i32_12
  let c11_i32_13 : BitVec 32 := 11#32
  let v28 : BitVec 32 := Scalar.subi c11_i32_13 v26
  let v29 : BitVec 32 := Scalar.select v27 v26 v28
  let c1_i32_355 : BitVec 32 := 1#32
  let v453 : BitVec 32 := Scalar.muli v29 c1_i32_355
  let v454 : BitVec 32 := Scalar.addi c0_i32_356 v453
  v454.toNat
def k0_off4 (d0 : Dev nD) (c0_i32_122 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_112 : BitVec 32 := 1#32
  let v166 : BitVec 32 := Scalar.addi v15 c1_i32_112
  let c8_i32_113 : BitVec 32 := 8#32
  let c0_i32_114 : BitVec 32 := 0#32
  let v167 : BitVec 1 := Scalar.cmpi .eq c8_i32_113 c0_i32_114
  let c1_i32_115 : BitVec 32 := 1#32
  let v168 : BitVec 32 := Scalar.select v167 c1_i32_115 c8_i32_113
  let v169 : BitVec 32 := Scalar.remsi v166 v168
  let c0_i32_117 : BitVec 32 := 0#32
  let v171 : BitVec 1 := Scalar.cmpi .slt v169 c0_i32_117
  let c0_i32_118 : BitVec 32 := 0#32
  let v172 : BitVec 1 := Scalar.cmpi .slt v168 c0_i32_118
  let v173 : BitVec 1 := Scalar.xori v171 v172
  let c0_i32_116 : BitVec 32 := 0#32
  let v170 : BitVec 1 := Scalar.cmpi .ne v169 c0_i32_116
  let v174 : BitVec 1 := Scalar.andi v173 v170
  let v175 : BitVec 32 := Scalar.addi v169 v168
  let v176 : BitVec 32 := Scalar.select v174 v175 v169
  let c4_i32_119 : BitVec 32 := 4#32
  let v177 : BitVec 1 := Scalar.cmpi .slt v176 c4_i32_119
  let c11_i32_120 : BitVec 32 := 11#32
  let v178 : BitVec 32 := Scalar.subi c11_i32_120 v176
  let v179 : BitVec 32 := Scalar.select v177 v176 v178
  let c1024_i32_121 : BitVec 32 := 1024#32
  let v180 : BitVec 32 := Scalar.muli v179 c1024_i32_121
  let v181 : BitVec 32 := Scalar.addi v180 c0_i32_122
  let c0_i32_374 : BitVec 32 := 0#32
  ![v181.toNat, 0]
def k0_dev17 (d0 : Dev nD) : Nat :=
  let c0_i32_373 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_14 : BitVec 32 := 1#32
  let v30 : BitVec 32 := Scalar.subi v15 c1_i32_14
  let c8_i32_15 : BitVec 32 := 8#32
  let c0_i32_16 : BitVec 32 := 0#32
  let v31 : BitVec 1 := Scalar.cmpi .eq c8_i32_15 c0_i32_16
  let c1_i32_17 : BitVec 32 := 1#32
  let v32 : BitVec 32 := Scalar.select v31 c1_i32_17 c8_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c4_i32_21 : BitVec 32 := 4#32
  let v41 : BitVec 1 := Scalar.cmpi .slt v40 c4_i32_21
  let c11_i32_22 : BitVec 32 := 11#32
  let v42 : BitVec 32 := Scalar.subi c11_i32_22 v40
  let v43 : BitVec 32 := Scalar.select v41 v40 v42
  let c1_i32_372 : BitVec 32 := 1#32
  let v467 : BitVec 32 := Scalar.muli v43 c1_i32_372
  let v468 : BitVec 32 := Scalar.addi c0_i32_373 v467
  v468.toNat
def k0_dev18 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_12 : BitVec 32 := 4#32
  let v27 : BitVec 1 := Scalar.cmpi .slt v26 c4_i32_12
  let c11_i32_13 : BitVec 32 := 11#32
  let v28 : BitVec 32 := Scalar.subi c11_i32_13 v26
  let v29 : BitVec 32 := Scalar.select v27 v26 v28
  let c1_i32_389 : BitVec 32 := 1#32
  let v481 : BitVec 32 := Scalar.muli v29 c1_i32_389
  let v482 : BitVec 32 := Scalar.addi c0_i32_390 v481
  v482.toNat
def k0_dev19 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_14 : BitVec 32 := 1#32
  let v30 : BitVec 32 := Scalar.subi v15 c1_i32_14
  let c8_i32_15 : BitVec 32 := 8#32
  let c0_i32_16 : BitVec 32 := 0#32
  let v31 : BitVec 1 := Scalar.cmpi .eq c8_i32_15 c0_i32_16
  let c1_i32_17 : BitVec 32 := 1#32
  let v32 : BitVec 32 := Scalar.select v31 c1_i32_17 c8_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c4_i32_21 : BitVec 32 := 4#32
  let v41 : BitVec 1 := Scalar.cmpi .slt v40 c4_i32_21
  let c11_i32_22 : BitVec 32 := 11#32
  let v42 : BitVec 32 := Scalar.subi c11_i32_22 v40
  let v43 : BitVec 32 := Scalar.select v41 v40 v42
  let c1_i32_406 : BitVec 32 := 1#32
  let v495 : BitVec 32 := Scalar.muli v43 c1_i32_406
  let v496 : BitVec 32 := Scalar.addi c0_i32_407 v495
  v496.toNat
def k0_dev20 (d0 : Dev nD) : Nat :=
  let c0_i32_424 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_12 : BitVec 32 := 4#32
  let v27 : BitVec 1 := Scalar.cmpi .slt v26 c4_i32_12
  let c11_i32_13 : BitVec 32 := 11#32
  let v28 : BitVec 32 := Scalar.subi c11_i32_13 v26
  let v29 : BitVec 32 := Scalar.select v27 v26 v28
  let c1_i32_423 : BitVec 32 := 1#32
  let v509 : BitVec 32 := Scalar.muli v29 c1_i32_423
  let v510 : BitVec 32 := Scalar.addi c0_i32_424 v509
  v510.toNat
def k0_dev21 (d0 : Dev nD) : Nat :=
  let c0_i32_441 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_14 : BitVec 32 := 1#32
  let v30 : BitVec 32 := Scalar.subi v15 c1_i32_14
  let c8_i32_15 : BitVec 32 := 8#32
  let c0_i32_16 : BitVec 32 := 0#32
  let v31 : BitVec 1 := Scalar.cmpi .eq c8_i32_15 c0_i32_16
  let c1_i32_17 : BitVec 32 := 1#32
  let v32 : BitVec 32 := Scalar.select v31 c1_i32_17 c8_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c4_i32_21 : BitVec 32 := 4#32
  let v41 : BitVec 1 := Scalar.cmpi .slt v40 c4_i32_21
  let c11_i32_22 : BitVec 32 := 11#32
  let v42 : BitVec 32 := Scalar.subi c11_i32_22 v40
  let v43 : BitVec 32 := Scalar.select v41 v40 v42
  let c1_i32_440 : BitVec 32 := 1#32
  let v523 : BitVec 32 := Scalar.muli v43 c1_i32_440
  let v524 : BitVec 32 := Scalar.addi c0_i32_441 v523
  v524.toNat
def k0_dev22 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_12 : BitVec 32 := 4#32
  let v27 : BitVec 1 := Scalar.cmpi .slt v26 c4_i32_12
  let c11_i32_13 : BitVec 32 := 11#32
  let v28 : BitVec 32 := Scalar.subi c11_i32_13 v26
  let v29 : BitVec 32 := Scalar.select v27 v26 v28
  let c1_i32_457 : BitVec 32 := 1#32
  let v537 : BitVec 32 := Scalar.muli v29 c1_i32_457
  let v538 : BitVec 32 := Scalar.addi c0_i32_458 v537
  v538.toNat
def k0_dev23 (d0 : Dev nD) : Nat :=
  let c0_i32_475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_14 : BitVec 32 := 1#32
  let v30 : BitVec 32 := Scalar.subi v15 c1_i32_14
  let c8_i32_15 : BitVec 32 := 8#32
  let c0_i32_16 : BitVec 32 := 0#32
  let v31 : BitVec 1 := Scalar.cmpi .eq c8_i32_15 c0_i32_16
  let c1_i32_17 : BitVec 32 := 1#32
  let v32 : BitVec 32 := Scalar.select v31 c1_i32_17 c8_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c4_i32_21 : BitVec 32 := 4#32
  let v41 : BitVec 1 := Scalar.cmpi .slt v40 c4_i32_21
  let c11_i32_22 : BitVec 32 := 11#32
  let v42 : BitVec 32 := Scalar.subi c11_i32_22 v40
  let v43 : BitVec 32 := Scalar.select v41 v40 v42
  let c1_i32_474 : BitVec 32 := 1#32
  let v551 : BitVec 32 := Scalar.muli v43 c1_i32_474
  let v552 : BitVec 32 := Scalar.addi c0_i32_475 v551
  v552.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c2_i32 : BitVec 32 := 2#32
  let c0_i32_23 : BitVec 32 := 0#32
  let v44 : BitVec 1 := Scalar.cmpi .eq c2_i32 c0_i32_23
  let c1_i32_24 : BitVec 32 := 1#32
  let v45 : BitVec 32 := Scalar.select v44 c1_i32_24 c2_i32
  let v46 : BitVec 32 := Scalar.remsi v15 v45
  let c0_i32_26 : BitVec 32 := 0#32
  let v48 : BitVec 1 := Scalar.cmpi .slt v46 c0_i32_26
  let c0_i32_27 : BitVec 32 := 0#32
  let v49 : BitVec 1 := Scalar.cmpi .slt v45 c0_i32_27
  let v50 : BitVec 1 := Scalar.xori v48 v49
  let c0_i32_25 : BitVec 32 := 0#32
  let v47 : BitVec 1 := Scalar.cmpi .ne v46 c0_i32_25
  let v51 : BitVec 1 := Scalar.andi v50 v47
  let v52 : BitVec 32 := Scalar.addi v46 v45
  let v53 : BitVec 32 := Scalar.select v51 v52 v46
  let c1_i32_28 : BitVec 32 := 1#32
  let v54 : BitVec 1 := Scalar.cmpi .eq v53 c1_i32_28
  let c1_i32_29 : BitVec 32 := 1#32
  let c_m1_i32 : BitVec 32 := 4294967295#32
  let v55 : BitVec 32 := Scalar.select v54 c1_i32_29 c_m1_i32
  let v333 : BitVec 32 := Scalar.addi v15 v55
  let c8_i32_223 : BitVec 32 := 8#32
  let c0_i32_224 : BitVec 32 := 0#32
  let v334 : BitVec 1 := Scalar.cmpi .eq c8_i32_223 c0_i32_224
  let c1_i32_225 : BitVec 32 := 1#32
  let v335 : BitVec 32 := Scalar.select v334 c1_i32_225 c8_i32_223
  let v336 : BitVec 32 := Scalar.remsi v333 v335
  let c0_i32_227 : BitVec 32 := 0#32
  let v338 : BitVec 1 := Scalar.cmpi .slt v336 c0_i32_227
  let c0_i32_228 : BitVec 32 := 0#32
  let v339 : BitVec 1 := Scalar.cmpi .slt v335 c0_i32_228
  let v340 : BitVec 1 := Scalar.xori v338 v339
  let c0_i32_226 : BitVec 32 := 0#32
  let v337 : BitVec 1 := Scalar.cmpi .ne v336 c0_i32_226
  let v341 : BitVec 1 := Scalar.andi v340 v337
  let v342 : BitVec 32 := Scalar.addi v336 v335
  let v343 : BitVec 32 := Scalar.select v341 v342 v336
  let c4_i32_229 : BitVec 32 := 4#32
  let v344 : BitVec 1 := Scalar.cmpi .slt v343 c4_i32_229
  let c11_i32_230 : BitVec 32 := 11#32
  let v345 : BitVec 32 := Scalar.subi c11_i32_230 v343
  let v346 : BitVec 32 := Scalar.select v344 v343 v345
  let c1024_i32_231 : BitVec 32 := 1024#32
  let v347 : BitVec 32 := Scalar.muli v346 c1024_i32_231
  let c688_i32 : BitVec 32 := 688#32
  let v348 : BitVec 32 := Scalar.addi v347 c688_i32
  let c0_i32_484 : BitVec 32 := 0#32
  ![v348.toNat, 0]
def k0_dev24 (d0 : Dev nD) : Nat :=
  let c0_i32_483 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c3_i32 : BitVec 32 := 3#32
  let c2_i32 : BitVec 32 := 2#32
  let c0_i32_23 : BitVec 32 := 0#32
  let v44 : BitVec 1 := Scalar.cmpi .eq c2_i32 c0_i32_23
  let c1_i32_24 : BitVec 32 := 1#32
  let v45 : BitVec 32 := Scalar.select v44 c1_i32_24 c2_i32
  let v46 : BitVec 32 := Scalar.remsi v15 v45
  let c0_i32_26 : BitVec 32 := 0#32
  let v48 : BitVec 1 := Scalar.cmpi .slt v46 c0_i32_26
  let c0_i32_27 : BitVec 32 := 0#32
  let v49 : BitVec 1 := Scalar.cmpi .slt v45 c0_i32_27
  let v50 : BitVec 1 := Scalar.xori v48 v49
  let c0_i32_25 : BitVec 32 := 0#32
  let v47 : BitVec 1 := Scalar.cmpi .ne v46 c0_i32_25
  let v51 : BitVec 1 := Scalar.andi v50 v47
  let v52 : BitVec 32 := Scalar.addi v46 v45
  let v53 : BitVec 32 := Scalar.select v51 v52 v46
  let c1_i32_28 : BitVec 32 := 1#32
  let v54 : BitVec 1 := Scalar.cmpi .eq v53 c1_i32_28
  let c1_i32_29 : BitVec 32 := 1#32
  let c_m1_i32 : BitVec 32 := 4294967295#32
  let v55 : BitVec 32 := Scalar.select v54 c1_i32_29 c_m1_i32
  let v56 : BitVec 32 := Scalar.muli c3_i32 v55
  let v57 : BitVec 32 := Scalar.subi v15 v56
  let c8_i32_30 : BitVec 32 := 8#32
  let c0_i32_31 : BitVec 32 := 0#32
  let v58 : BitVec 1 := Scalar.cmpi .eq c8_i32_30 c0_i32_31
  let c1_i32_32 : BitVec 32 := 1#32
  let v59 : BitVec 32 := Scalar.select v58 c1_i32_32 c8_i32_30
  let v60 : BitVec 32 := Scalar.remsi v57 v59
  let c0_i32_34 : BitVec 32 := 0#32
  let v62 : BitVec 1 := Scalar.cmpi .slt v60 c0_i32_34
  let c0_i32_35 : BitVec 32 := 0#32
  let v63 : BitVec 1 := Scalar.cmpi .slt v59 c0_i32_35
  let v64 : BitVec 1 := Scalar.xori v62 v63
  let c0_i32_33 : BitVec 32 := 0#32
  let v61 : BitVec 1 := Scalar.cmpi .ne v60 c0_i32_33
  let v65 : BitVec 1 := Scalar.andi v64 v61
  let v66 : BitVec 32 := Scalar.addi v60 v59
  let v67 : BitVec 32 := Scalar.select v65 v66 v60
  let c4_i32_36 : BitVec 32 := 4#32
  let v68 : BitVec 1 := Scalar.cmpi .slt v67 c4_i32_36
  let c11_i32_37 : BitVec 32 := 11#32
  let v69 : BitVec 32 := Scalar.subi c11_i32_37 v67
  let v70 : BitVec 32 := Scalar.select v68 v67 v69
  let c1_i32_482 : BitVec 32 := 1#32
  let v559 : BitVec 32 := Scalar.muli v70 c1_i32_482
  let v560 : BitVec 32 := Scalar.addi c0_i32_483 v559
  v560.toNat
def k0_off6 (d0 : Dev nD) (c0_i32_166 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c2_i32_156 : BitVec 32 := 2#32
  let c2_i32 : BitVec 32 := 2#32
  let c0_i32_23 : BitVec 32 := 0#32
  let v44 : BitVec 1 := Scalar.cmpi .eq c2_i32 c0_i32_23
  let c1_i32_24 : BitVec 32 := 1#32
  let v45 : BitVec 32 := Scalar.select v44 c1_i32_24 c2_i32
  let v46 : BitVec 32 := Scalar.remsi v15 v45
  let c0_i32_26 : BitVec 32 := 0#32
  let v48 : BitVec 1 := Scalar.cmpi .slt v46 c0_i32_26
  let c0_i32_27 : BitVec 32 := 0#32
  let v49 : BitVec 1 := Scalar.cmpi .slt v45 c0_i32_27
  let v50 : BitVec 1 := Scalar.xori v48 v49
  let c0_i32_25 : BitVec 32 := 0#32
  let v47 : BitVec 1 := Scalar.cmpi .ne v46 c0_i32_25
  let v51 : BitVec 1 := Scalar.andi v50 v47
  let v52 : BitVec 32 := Scalar.addi v46 v45
  let v53 : BitVec 32 := Scalar.select v51 v52 v46
  let c1_i32_28 : BitVec 32 := 1#32
  let v54 : BitVec 1 := Scalar.cmpi .eq v53 c1_i32_28
  let c1_i32_29 : BitVec 32 := 1#32
  let c_m1_i32 : BitVec 32 := 4294967295#32
  let v55 : BitVec 32 := Scalar.select v54 c1_i32_29 c_m1_i32
  let v230 : BitVec 32 := Scalar.muli c2_i32_156 v55
  let v231 : BitVec 32 := Scalar.addi v15 v230
  let c8_i32_157 : BitVec 32 := 8#32
  let c0_i32_158 : BitVec 32 := 0#32
  let v232 : BitVec 1 := Scalar.cmpi .eq c8_i32_157 c0_i32_158
  let c1_i32_159 : BitVec 32 := 1#32
  let v233 : BitVec 32 := Scalar.select v232 c1_i32_159 c8_i32_157
  let v234 : BitVec 32 := Scalar.remsi v231 v233
  let c0_i32_161 : BitVec 32 := 0#32
  let v236 : BitVec 1 := Scalar.cmpi .slt v234 c0_i32_161
  let c0_i32_162 : BitVec 32 := 0#32
  let v237 : BitVec 1 := Scalar.cmpi .slt v233 c0_i32_162
  let v238 : BitVec 1 := Scalar.xori v236 v237
  let c0_i32_160 : BitVec 32 := 0#32
  let v235 : BitVec 1 := Scalar.cmpi .ne v234 c0_i32_160
  let v239 : BitVec 1 := Scalar.andi v238 v235
  let v240 : BitVec 32 := Scalar.addi v234 v233
  let v241 : BitVec 32 := Scalar.select v239 v240 v234
  let c4_i32_163 : BitVec 32 := 4#32
  let v242 : BitVec 1 := Scalar.cmpi .slt v241 c4_i32_163
  let c11_i32_164 : BitVec 32 := 11#32
  let v243 : BitVec 32 := Scalar.subi c11_i32_164 v241
  let v244 : BitVec 32 := Scalar.select v242 v241 v243
  let c1024_i32_165 : BitVec 32 := 1024#32
  let v245 : BitVec 32 := Scalar.muli v244 c1024_i32_165
  let v246 : BitVec 32 := Scalar.addi v245 c0_i32_166
  let c0_i32_508 : BitVec 32 := 0#32
  ![v246.toNat, 0]
def k0_dev25 (d0 : Dev nD) : Nat :=
  let c0_i32_507 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c3_i32 : BitVec 32 := 3#32
  let c2_i32 : BitVec 32 := 2#32
  let c0_i32_23 : BitVec 32 := 0#32
  let v44 : BitVec 1 := Scalar.cmpi .eq c2_i32 c0_i32_23
  let c1_i32_24 : BitVec 32 := 1#32
  let v45 : BitVec 32 := Scalar.select v44 c1_i32_24 c2_i32
  let v46 : BitVec 32 := Scalar.remsi v15 v45
  let c0_i32_26 : BitVec 32 := 0#32
  let v48 : BitVec 1 := Scalar.cmpi .slt v46 c0_i32_26
  let c0_i32_27 : BitVec 32 := 0#32
  let v49 : BitVec 1 := Scalar.cmpi .slt v45 c0_i32_27
  let v50 : BitVec 1 := Scalar.xori v48 v49
  let c0_i32_25 : BitVec 32 := 0#32
  let v47 : BitVec 1 := Scalar.cmpi .ne v46 c0_i32_25
  let v51 : BitVec 1 := Scalar.andi v50 v47
  let v52 : BitVec 32 := Scalar.addi v46 v45
  let v53 : BitVec 32 := Scalar.select v51 v52 v46
  let c1_i32_28 : BitVec 32 := 1#32
  let v54 : BitVec 1 := Scalar.cmpi .eq v53 c1_i32_28
  let c1_i32_29 : BitVec 32 := 1#32
  let c_m1_i32 : BitVec 32 := 4294967295#32
  let v55 : BitVec 32 := Scalar.select v54 c1_i32_29 c_m1_i32
  let v56 : BitVec 32 := Scalar.muli c3_i32 v55
  let v57 : BitVec 32 := Scalar.subi v15 v56
  let c8_i32_30 : BitVec 32 := 8#32
  let c0_i32_31 : BitVec 32 := 0#32
  let v58 : BitVec 1 := Scalar.cmpi .eq c8_i32_30 c0_i32_31
  let c1_i32_32 : BitVec 32 := 1#32
  let v59 : BitVec 32 := Scalar.select v58 c1_i32_32 c8_i32_30
  let v60 : BitVec 32 := Scalar.remsi v57 v59
  let c0_i32_34 : BitVec 32 := 0#32
  let v62 : BitVec 1 := Scalar.cmpi .slt v60 c0_i32_34
  let c0_i32_35 : BitVec 32 := 0#32
  let v63 : BitVec 1 := Scalar.cmpi .slt v59 c0_i32_35
  let v64 : BitVec 1 := Scalar.xori v62 v63
  let c0_i32_33 : BitVec 32 := 0#32
  let v61 : BitVec 1 := Scalar.cmpi .ne v60 c0_i32_33
  let v65 : BitVec 1 := Scalar.andi v64 v61
  let v66 : BitVec 32 := Scalar.addi v60 v59
  let v67 : BitVec 32 := Scalar.select v65 v66 v60
  let c4_i32_36 : BitVec 32 := 4#32
  let v68 : BitVec 1 := Scalar.cmpi .slt v67 c4_i32_36
  let c11_i32_37 : BitVec 32 := 11#32
  let v69 : BitVec 32 := Scalar.subi c11_i32_37 v67
  let v70 : BitVec 32 := Scalar.select v68 v67 v69
  let c1_i32_506 : BitVec 32 := 1#32
  let v579 : BitVec 32 := Scalar.muli v70 c1_i32_506
  let v580 : BitVec 32 := Scalar.addi c0_i32_507 v579
  v580.toNat
def k0_dev26 (d0 : Dev nD) : Nat :=
  let c0_i32_531 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c3_i32 : BitVec 32 := 3#32
  let c2_i32 : BitVec 32 := 2#32
  let c0_i32_23 : BitVec 32 := 0#32
  let v44 : BitVec 1 := Scalar.cmpi .eq c2_i32 c0_i32_23
  let c1_i32_24 : BitVec 32 := 1#32
  let v45 : BitVec 32 := Scalar.select v44 c1_i32_24 c2_i32
  let v46 : BitVec 32 := Scalar.remsi v15 v45
  let c0_i32_26 : BitVec 32 := 0#32
  let v48 : BitVec 1 := Scalar.cmpi .slt v46 c0_i32_26
  let c0_i32_27 : BitVec 32 := 0#32
  let v49 : BitVec 1 := Scalar.cmpi .slt v45 c0_i32_27
  let v50 : BitVec 1 := Scalar.xori v48 v49
  let c0_i32_25 : BitVec 32 := 0#32
  let v47 : BitVec 1 := Scalar.cmpi .ne v46 c0_i32_25
  let v51 : BitVec 1 := Scalar.andi v50 v47
  let v52 : BitVec 32 := Scalar.addi v46 v45
  let v53 : BitVec 32 := Scalar.select v51 v52 v46
  let c1_i32_28 : BitVec 32 := 1#32
  let v54 : BitVec 1 := Scalar.cmpi .eq v53 c1_i32_28
  let c1_i32_29 : BitVec 32 := 1#32
  let c_m1_i32 : BitVec 32 := 4294967295#32
  let v55 : BitVec 32 := Scalar.select v54 c1_i32_29 c_m1_i32
  let v56 : BitVec 32 := Scalar.muli c3_i32 v55
  let v57 : BitVec 32 := Scalar.subi v15 v56
  let c8_i32_30 : BitVec 32 := 8#32
  let c0_i32_31 : BitVec 32 := 0#32
  let v58 : BitVec 1 := Scalar.cmpi .eq c8_i32_30 c0_i32_31
  let c1_i32_32 : BitVec 32 := 1#32
  let v59 : BitVec 32 := Scalar.select v58 c1_i32_32 c8_i32_30
  let v60 : BitVec 32 := Scalar.remsi v57 v59
  let c0_i32_34 : BitVec 32 := 0#32
  let v62 : BitVec 1 := Scalar.cmpi .slt v60 c0_i32_34
  let c0_i32_35 : BitVec 32 := 0#32
  let v63 : BitVec 1 := Scalar.cmpi .slt v59 c0_i32_35
  let v64 : BitVec 1 := Scalar.xori v62 v63
  let c0_i32_33 : BitVec 32 := 0#32
  let v61 : BitVec 1 := Scalar.cmpi .ne v60 c0_i32_33
  let v65 : BitVec 1 := Scalar.andi v64 v61
  let v66 : BitVec 32 := Scalar.addi v60 v59
  let v67 : BitVec 32 := Scalar.select v65 v66 v60
  let c4_i32_36 : BitVec 32 := 4#32
  let v68 : BitVec 1 := Scalar.cmpi .slt v67 c4_i32_36
  let c11_i32_37 : BitVec 32 := 11#32
  let v69 : BitVec 32 := Scalar.subi c11_i32_37 v67
  let v70 : BitVec 32 := Scalar.select v68 v67 v69
  let c1_i32_530 : BitVec 32 := 1#32
  let v599 : BitVec 32 := Scalar.muli v70 c1_i32_530
  let v600 : BitVec 32 := Scalar.addi c0_i32_531 v599
  v600.toNat
def k0_dev27 (d0 : Dev nD) : Nat :=
  let c0_i32_555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c3_i32 : BitVec 32 := 3#32
  let c2_i32 : BitVec 32 := 2#32
  let c0_i32_23 : BitVec 32 := 0#32
  let v44 : BitVec 1 := Scalar.cmpi .eq c2_i32 c0_i32_23
  let c1_i32_24 : BitVec 32 := 1#32
  let v45 : BitVec 32 := Scalar.select v44 c1_i32_24 c2_i32
  let v46 : BitVec 32 := Scalar.remsi v15 v45
  let c0_i32_26 : BitVec 32 := 0#32
  let v48 : BitVec 1 := Scalar.cmpi .slt v46 c0_i32_26
  let c0_i32_27 : BitVec 32 := 0#32
  let v49 : BitVec 1 := Scalar.cmpi .slt v45 c0_i32_27
  let v50 : BitVec 1 := Scalar.xori v48 v49
  let c0_i32_25 : BitVec 32 := 0#32
  let v47 : BitVec 1 := Scalar.cmpi .ne v46 c0_i32_25
  let v51 : BitVec 1 := Scalar.andi v50 v47
  let v52 : BitVec 32 := Scalar.addi v46 v45
  let v53 : BitVec 32 := Scalar.select v51 v52 v46
  let c1_i32_28 : BitVec 32 := 1#32
  let v54 : BitVec 1 := Scalar.cmpi .eq v53 c1_i32_28
  let c1_i32_29 : BitVec 32 := 1#32
  let c_m1_i32 : BitVec 32 := 4294967295#32
  let v55 : BitVec 32 := Scalar.select v54 c1_i32_29 c_m1_i32
  let v56 : BitVec 32 := Scalar.muli c3_i32 v55
  let v57 : BitVec 32 := Scalar.subi v15 v56
  let c8_i32_30 : BitVec 32 := 8#32
  let c0_i32_31 : BitVec 32 := 0#32
  let v58 : BitVec 1 := Scalar.cmpi .eq c8_i32_30 c0_i32_31
  let c1_i32_32 : BitVec 32 := 1#32
  let v59 : BitVec 32 := Scalar.select v58 c1_i32_32 c8_i32_30
  let v60 : BitVec 32 := Scalar.remsi v57 v59
  let c0_i32_34 : BitVec 32 := 0#32
  let v62 : BitVec 1 := Scalar.cmpi .slt v60 c0_i32_34
  let c0_i32_35 : BitVec 32 := 0#32
  let v63 : BitVec 1 := Scalar.cmpi .slt v59 c0_i32_35
  let v64 : BitVec 1 := Scalar.xori v62 v63
  let c0_i32_33 : BitVec 32 := 0#32
  let v61 : BitVec 1 := Scalar.cmpi .ne v60 c0_i32_33
  let v65 : BitVec 1 := Scalar.andi v64 v61
  let v66 : BitVec 32 := Scalar.addi v60 v59
  let v67 : BitVec 32 := Scalar.select v65 v66 v60
  let c4_i32_36 : BitVec 32 := 4#32
  let v68 : BitVec 1 := Scalar.cmpi .slt v67 c4_i32_36
  let c11_i32_37 : BitVec 32 := 11#32
  let v69 : BitVec 32 := Scalar.subi c11_i32_37 v67
  let v70 : BitVec 32 := Scalar.select v68 v67 v69
  let c1_i32_554 : BitVec 32 := 1#32
  let v619 : BitVec 32 := Scalar.muli v70 c1_i32_554
  let v620 : BitVec 32 := Scalar.addi c0_i32_555 v619
  v620.toNat
def k0_dev28 (d0 : Dev nD) : Nat :=
  let c0_i32_579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c3_i32 : BitVec 32 := 3#32
  let c2_i32 : BitVec 32 := 2#32
  let c0_i32_23 : BitVec 32 := 0#32
  let v44 : BitVec 1 := Scalar.cmpi .eq c2_i32 c0_i32_23
  let c1_i32_24 : BitVec 32 := 1#32
  let v45 : BitVec 32 := Scalar.select v44 c1_i32_24 c2_i32
  let v46 : BitVec 32 := Scalar.remsi v15 v45
  let c0_i32_26 : BitVec 32 := 0#32
  let v48 : BitVec 1 := Scalar.cmpi .slt v46 c0_i32_26
  let c0_i32_27 : BitVec 32 := 0#32
  let v49 : BitVec 1 := Scalar.cmpi .slt v45 c0_i32_27
  let v50 : BitVec 1 := Scalar.xori v48 v49
  let c0_i32_25 : BitVec 32 := 0#32
  let v47 : BitVec 1 := Scalar.cmpi .ne v46 c0_i32_25
  let v51 : BitVec 1 := Scalar.andi v50 v47
  let v52 : BitVec 32 := Scalar.addi v46 v45
  let v53 : BitVec 32 := Scalar.select v51 v52 v46
  let c1_i32_28 : BitVec 32 := 1#32
  let v54 : BitVec 1 := Scalar.cmpi .eq v53 c1_i32_28
  let c1_i32_29 : BitVec 32 := 1#32
  let c_m1_i32 : BitVec 32 := 4294967295#32
  let v55 : BitVec 32 := Scalar.select v54 c1_i32_29 c_m1_i32
  let v56 : BitVec 32 := Scalar.muli c3_i32 v55
  let v57 : BitVec 32 := Scalar.subi v15 v56
  let c8_i32_30 : BitVec 32 := 8#32
  let c0_i32_31 : BitVec 32 := 0#32
  let v58 : BitVec 1 := Scalar.cmpi .eq c8_i32_30 c0_i32_31
  let c1_i32_32 : BitVec 32 := 1#32
  let v59 : BitVec 32 := Scalar.select v58 c1_i32_32 c8_i32_30
  let v60 : BitVec 32 := Scalar.remsi v57 v59
  let c0_i32_34 : BitVec 32 := 0#32
  let v62 : BitVec 1 := Scalar.cmpi .slt v60 c0_i32_34
  let c0_i32_35 : BitVec 32 := 0#32
  let v63 : BitVec 1 := Scalar.cmpi .slt v59 c0_i32_35
  let v64 : BitVec 1 := Scalar.xori v62 v63
  let c0_i32_33 : BitVec 32 := 0#32
  let v61 : BitVec 1 := Scalar.cmpi .ne v60 c0_i32_33
  let v65 : BitVec 1 := Scalar.andi v64 v61
  let v66 : BitVec 32 := Scalar.addi v60 v59
  let v67 : BitVec 32 := Scalar.select v65 v66 v60
  let c4_i32_36 : BitVec 32 := 4#32
  let v68 : BitVec 1 := Scalar.cmpi .slt v67 c4_i32_36
  let c11_i32_37 : BitVec 32 := 11#32
  let v69 : BitVec 32 := Scalar.subi c11_i32_37 v67
  let v70 : BitVec 32 := Scalar.select v68 v67 v69
  let c1_i32_578 : BitVec 32 := 1#32
  let v639 : BitVec 32 := Scalar.muli v70 c1_i32_578
  let v640 : BitVec 32 := Scalar.addi c0_i32_579 v639
  v640.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c3_i32_203 : BitVec 32 := 3#32
  let v301 : BitVec 32 := Scalar.subi v15 c3_i32_203
  let c8_i32_204 : BitVec 32 := 8#32
  let c0_i32_205 : BitVec 32 := 0#32
  let v302 : BitVec 1 := Scalar.cmpi .eq c8_i32_204 c0_i32_205
  let c1_i32_206 : BitVec 32 := 1#32
  let v303 : BitVec 32 := Scalar.select v302 c1_i32_206 c8_i32_204
  let v304 : BitVec 32 := Scalar.remsi v301 v303
  let c0_i32_208 : BitVec 32 := 0#32
  let v306 : BitVec 1 := Scalar.cmpi .slt v304 c0_i32_208
  let c0_i32_209 : BitVec 32 := 0#32
  let v307 : BitVec 1 := Scalar.cmpi .slt v303 c0_i32_209
  let v308 : BitVec 1 := Scalar.xori v306 v307
  let c0_i32_207 : BitVec 32 := 0#32
  let v305 : BitVec 1 := Scalar.cmpi .ne v304 c0_i32_207
  let v309 : BitVec 1 := Scalar.andi v308 v305
  let v310 : BitVec 32 := Scalar.addi v304 v303
  let v311 : BitVec 32 := Scalar.select v309 v310 v304
  let c4_i32_210 : BitVec 32 := 4#32
  let v312 : BitVec 1 := Scalar.cmpi .slt v311 c4_i32_210
  let c11_i32_211 : BitVec 32 := 11#32
  let v313 : BitVec 32 := Scalar.subi c11_i32_211 v311
  let v314 : BitVec 32 := Scalar.select v312 v311 v313
  let c1024_i32_212 : BitVec 32 := 1024#32
  let v315 : BitVec 32 := Scalar.muli v314 c1024_i32_212
  let c2_i32 : BitVec 32 := 2#32
  let c0_i32_23 : BitVec 32 := 0#32
  let v44 : BitVec 1 := Scalar.cmpi .eq c2_i32 c0_i32_23
  let c1_i32_24 : BitVec 32 := 1#32
  let v45 : BitVec 32 := Scalar.select v44 c1_i32_24 c2_i32
  let v46 : BitVec 32 := Scalar.remsi v15 v45
  let c0_i32_26 : BitVec 32 := 0#32
  let v48 : BitVec 1 := Scalar.cmpi .slt v46 c0_i32_26
  let c0_i32_27 : BitVec 32 := 0#32
  let v49 : BitVec 1 := Scalar.cmpi .slt v45 c0_i32_27
  let v50 : BitVec 1 := Scalar.xori v48 v49
  let c0_i32_25 : BitVec 32 := 0#32
  let v47 : BitVec 1 := Scalar.cmpi .ne v46 c0_i32_25
  let v51 : BitVec 1 := Scalar.andi v50 v47
  let v52 : BitVec 32 := Scalar.addi v46 v45
  let v53 : BitVec 32 := Scalar.select v51 v52 v46
  let c1_i32_28 : BitVec 32 := 1#32
  let v54 : BitVec 1 := Scalar.cmpi .eq v53 c1_i32_28
  let c1_i32_29 : BitVec 32 := 1#32
  let c_m1_i32 : BitVec 32 := 4294967295#32
  let v55 : BitVec 32 := Scalar.select v54 c1_i32_29 c_m1_i32
  let c0_i32_200 : BitVec 32 := 0#32
  let v298 : BitVec 1 := Scalar.cmpi .slt v55 c0_i32_200
  let c0_i32_201 : BitVec 32 := 0#32
  let c344_i32 : BitVec 32 := 344#32
  let v299 : BitVec 32 := Scalar.select v298 c0_i32_201 c344_i32
  let v316 : BitVec 32 := Scalar.addi v315 v299
  let c0_i32_640 : BitVec 32 := 0#32
  ![v316.toNat, 0]
def k0_dev29 (d0 : Dev nD) : Nat :=
  let c0_i32_639 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_5 : BitVec 32 := 1#32
  let v16 : BitVec 32 := Scalar.addi v15 c1_i32_5
  let c8_i32_6 : BitVec 32 := 8#32
  let c0_i32_7 : BitVec 32 := 0#32
  let v17 : BitVec 1 := Scalar.cmpi .eq c8_i32_6 c0_i32_7
  let c1_i32_8 : BitVec 32 := 1#32
  let v18 : BitVec 32 := Scalar.select v17 c1_i32_8 c8_i32_6
  let v19 : BitVec 32 := Scalar.remsi v16 v18
  let c0_i32_10 : BitVec 32 := 0#32
  let v21 : BitVec 1 := Scalar.cmpi .slt v19 c0_i32_10
  let c0_i32_11 : BitVec 32 := 0#32
  let v22 : BitVec 1 := Scalar.cmpi .slt v18 c0_i32_11
  let v23 : BitVec 1 := Scalar.xori v21 v22
  let c0_i32_9 : BitVec 32 := 0#32
  let v20 : BitVec 1 := Scalar.cmpi .ne v19 c0_i32_9
  let v24 : BitVec 1 := Scalar.andi v23 v20
  let v25 : BitVec 32 := Scalar.addi v19 v18
  let v26 : BitVec 32 := Scalar.select v24 v25 v19
  let c4_i32_12 : BitVec 32 := 4#32
  let v27 : BitVec 1 := Scalar.cmpi .slt v26 c4_i32_12
  let c11_i32_13 : BitVec 32 := 11#32
  let v28 : BitVec 32 := Scalar.subi c11_i32_13 v26
  let v29 : BitVec 32 := Scalar.select v27 v26 v28
  let c1_i32_638 : BitVec 32 := 1#32
  let v683 : BitVec 32 := Scalar.muli v29 c1_i32_638
  let v684 : BitVec 32 := Scalar.addi c0_i32_639 v683
  v684.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c3_i32_213 : BitVec 32 := 3#32
  let v317 : BitVec 32 := Scalar.addi v15 c3_i32_213
  let c8_i32_214 : BitVec 32 := 8#32
  let c0_i32_215 : BitVec 32 := 0#32
  let v318 : BitVec 1 := Scalar.cmpi .eq c8_i32_214 c0_i32_215
  let c1_i32_216 : BitVec 32 := 1#32
  let v319 : BitVec 32 := Scalar.select v318 c1_i32_216 c8_i32_214
  let v320 : BitVec 32 := Scalar.remsi v317 v319
  let c0_i32_218 : BitVec 32 := 0#32
  let v322 : BitVec 1 := Scalar.cmpi .slt v320 c0_i32_218
  let c0_i32_219 : BitVec 32 := 0#32
  let v323 : BitVec 1 := Scalar.cmpi .slt v319 c0_i32_219
  let v324 : BitVec 1 := Scalar.xori v322 v323
  let c0_i32_217 : BitVec 32 := 0#32
  let v321 : BitVec 1 := Scalar.cmpi .ne v320 c0_i32_217
  let v325 : BitVec 1 := Scalar.andi v324 v321
  let v326 : BitVec 32 := Scalar.addi v320 v319
  let v327 : BitVec 32 := Scalar.select v325 v326 v320
  let c4_i32_220 : BitVec 32 := 4#32
  let v328 : BitVec 1 := Scalar.cmpi .slt v327 c4_i32_220
  let c11_i32_221 : BitVec 32 := 11#32
  let v329 : BitVec 32 := Scalar.subi c11_i32_221 v327
  let v330 : BitVec 32 := Scalar.select v328 v327 v329
  let c1024_i32_222 : BitVec 32 := 1024#32
  let v331 : BitVec 32 := Scalar.muli v330 c1024_i32_222
  let c344_i32_202 : BitVec 32 := 344#32
  let c2_i32 : BitVec 32 := 2#32
  let c0_i32_23 : BitVec 32 := 0#32
  let v44 : BitVec 1 := Scalar.cmpi .eq c2_i32 c0_i32_23
  let c1_i32_24 : BitVec 32 := 1#32
  let v45 : BitVec 32 := Scalar.select v44 c1_i32_24 c2_i32
  let v46 : BitVec 32 := Scalar.remsi v15 v45
  let c0_i32_26 : BitVec 32 := 0#32
  let v48 : BitVec 1 := Scalar.cmpi .slt v46 c0_i32_26
  let c0_i32_27 : BitVec 32 := 0#32
  let v49 : BitVec 1 := Scalar.cmpi .slt v45 c0_i32_27
  let v50 : BitVec 1 := Scalar.xori v48 v49
  let c0_i32_25 : BitVec 32 := 0#32
  let v47 : BitVec 1 := Scalar.cmpi .ne v46 c0_i32_25
  let v51 : BitVec 1 := Scalar.andi v50 v47
  let v52 : BitVec 32 := Scalar.addi v46 v45
  let v53 : BitVec 32 := Scalar.select v51 v52 v46
  let c1_i32_28 : BitVec 32 := 1#32
  let v54 : BitVec 1 := Scalar.cmpi .eq v53 c1_i32_28
  let c1_i32_29 : BitVec 32 := 1#32
  let c_m1_i32 : BitVec 32 := 4294967295#32
  let v55 : BitVec 32 := Scalar.select v54 c1_i32_29 c_m1_i32
  let c0_i32_200 : BitVec 32 := 0#32
  let v298 : BitVec 1 := Scalar.cmpi .slt v55 c0_i32_200
  let c0_i32_201 : BitVec 32 := 0#32
  let c344_i32 : BitVec 32 := 344#32
  let v299 : BitVec 32 := Scalar.select v298 c0_i32_201 c344_i32
  let v300 : BitVec 32 := Scalar.subi c344_i32_202 v299
  let v332 : BitVec 32 := Scalar.addi v331 v300
  let c0_i32_648 : BitVec 32 := 0#32
  ![v332.toNat, 0]
def k0_dev30 (d0 : Dev nD) : Nat :=
  let c0_i32_647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let c0_i32 : BitVec 32 := 0#32
  let v3 : BitVec 1 := Scalar.cmpi .eq c8_i32_0 c0_i32
  let c1_i32_1 : BitVec 32 := 1#32
  let v4 : BitVec 32 := Scalar.select v3 c1_i32_1 c8_i32_0
  let v5 : BitVec 32 := Scalar.remsi v2 v4
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let c0_i32_2 : BitVec 32 := 0#32
  let v6 : BitVec 1 := Scalar.cmpi .ne v5 c0_i32_2
  let v10 : BitVec 1 := Scalar.andi v9 v6
  let v11 : BitVec 32 := Scalar.addi v5 v4
  let v12 : BitVec 32 := Scalar.select v10 v11 v5
  let c4_i32 : BitVec 32 := 4#32
  let v13 : BitVec 1 := Scalar.cmpi .slt v12 c4_i32
  let c11_i32 : BitVec 32 := 11#32
  let v14 : BitVec 32 := Scalar.subi c11_i32 v12
  let v15 : BitVec 32 := Scalar.select v13 v12 v14
  let c1_i32_14 : BitVec 32 := 1#32
  let v30 : BitVec 32 := Scalar.subi v15 c1_i32_14
  let c8_i32_15 : BitVec 32 := 8#32
  let c0_i32_16 : BitVec 32 := 0#32
  let v31 : BitVec 1 := Scalar.cmpi .eq c8_i32_15 c0_i32_16
  let c1_i32_17 : BitVec 32 := 1#32
  let v32 : BitVec 32 := Scalar.select v31 c1_i32_17 c8_i32_15
  let v33 : BitVec 32 := Scalar.remsi v30 v32
  let c0_i32_19 : BitVec 32 := 0#32
  let v35 : BitVec 1 := Scalar.cmpi .slt v33 c0_i32_19
  let c0_i32_20 : BitVec 32 := 0#32
  let v36 : BitVec 1 := Scalar.cmpi .slt v32 c0_i32_20
  let v37 : BitVec 1 := Scalar.xori v35 v36
  let c0_i32_18 : BitVec 32 := 0#32
  let v34 : BitVec 1 := Scalar.cmpi .ne v33 c0_i32_18
  let v38 : BitVec 1 := Scalar.andi v37 v34
  let v39 : BitVec 32 := Scalar.addi v33 v32
  let v40 : BitVec 32 := Scalar.select v38 v39 v33
  let c4_i32_21 : BitVec 32 := 4#32
  let v41 : BitVec 1 := Scalar.cmpi .slt v40 c4_i32_21
  let c11_i32_22 : BitVec 32 := 11#32
  let v42 : BitVec 32 := Scalar.subi c11_i32_22 v40
  let v43 : BitVec 32 := Scalar.select v41 v40 v42
  let c1_i32_646 : BitVec 32 := 1#32
  let v691 : BitVec 32 := Scalar.muli v43 c1_i32_646
  let v692 : BitVec 32 := Scalar.addi c0_i32_647 v691
  v692.toNat
-- ==== ReferenceIdeal.lean ====
abbrev S8192x512 : Shape := ⟨2, ![8192, 512]⟩

abbrev nBuf : Space → Nat
  | .hbm => 1
  | .vmem => 0
  | .smem => 0
  | _ => 0

abbrev bufTy : (tb : Table) → Fin (tcTables nBuf tb) → BufTy
  | .hbm, ⟨0, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Geo.lean ====
/-
The arithmetic of the all-gather: who sends which rows to whom, in what order.

Eight devices stand on a ring; device number `gray t` stands at place `t`. A device has three partners: the next and the
previous one of the ring and a third, three places away. To every partner it makes nine transfers: its own block in
four segments, a partner's block in four segments, and a third of the farthest block.
-/
module

public import proofs.«01_k».proof.Proof.Gen.KernelIdeal

@[expose] public section

namespace Cert.Gather

open Cert.KernelIdeal Cert.KernelIdeal.Gen
open Idealize.ShloMosaic Idealize.SL.Sem

/-! ## The ring -/

/-- The device at place `t` of the ring (and the place of device `t`: the map is its own inverse). -/
def gray (t : ℕ) : ℕ := if t % 8 < 4 then t % 8 else 11 - t % 8

/-- The map stays below eight. -/
theorem gray_lt (t : ℕ) : gray t < 8 := by unfold gray; split <;> omega

/-- The device `t` places after device `c`. -/
def away (c : Dev nD) (t : ℕ) : Dev nD := ⟨gray (gray c.val + t), gray_lt _⟩

/-- Whether the device stands at an odd place. -/
def odd (c : Dev nD) : Bool := gray c.val % 2 == 1

/-- A device's partner in direction `k`: the next, the previous, the third one. -/
def nbr (c : Dev nD) (k : Fin 3) : Dev nD :=
  away c (match k with | 0 => 1 | 1 => 7 | 2 => if odd c then 5 else 3)

/-- The direction back. -/
def opp (k : Fin 3) : Fin 3 := match k with | 0 => 1 | 1 => 0 | 2 => 2

/-- There and back. -/
theorem nbr_opp : ∀ (c : Dev nD) (k : Fin 3), nbr (nbr c k) (opp k) = c := by decide +kernel
/-- Back and there. -/
theorem opp_nbr : ∀ (c : Dev nD) (k : Fin 3), nbr (nbr c (opp k)) k = c := by decide +kernel
/-- Turning twice changes nothing. -/
theorem opp_opp : ∀ k : Fin 3, opp (opp k) = k := by decide

/-! ## The transfers -/

/-- A transfer of a device: its direction and its number in that direction (0–3 own segments, 4–7 forwarded segments,
    8 the third of the farthest block). -/
abbrev Xf : Type := Fin 3 × Fin 9

/-- The partner a transfer goes to. -/
abbrev tgt (c : Dev nD) (x : Xf) : Dev nD := nbr c x.1
/-- The partner the transfer of this name comes from. -/
abbrev org (c : Dev nD) (x : Xf) : Dev nD := nbr c (opp x.1)

/-- The block a transfer of device `c` carries. -/
def blk (c : Dev nD) (x : Xf) : Dev nD :=
  if x.2.val < 4 then c
  else if x.2.val < 8 then away c (match x.1 with | 0 => 7 | 1 => 1 | 2 => if odd c then 2 else 6)
  else away c (match x.1 with | 0 => 5 | 1 => 3 | 2 => if odd c then 1 else 7)

/-- The rows at which a block is cut: a piece is the rows between two of these. -/
def cut (i : ℕ) : ℕ := match i with | 0 => 0 | 1 => 256 | 2 => 344 | 3 => 512 | 4 => 688 | 5 => 768 | _ => 1024

/-- The piece of the block a transfer carries: four quarters and three thirds. -/
def piece (c : Dev nD) (x : Xf) : Fin 7 :=
  if h : x.2.val < 8 then ⟨x.2.val % 4, by omega⟩
  else match x.1 with | 0 => (if odd c then 5 else 4) | 1 => (if odd c then 4 else 5) | 2 => 6

/-- A piece's first cut. -/
def lo (p : Fin 7) : ℕ := match p with | 0 => 0 | 1 => 1 | 2 => 3 | 3 => 5 | 4 => 0 | 5 => 2 | 6 => 4
/-- A piece's last cut. -/
def hi (p : Fin 7) : ℕ := match p with | 0 => 1 | 1 => 3 | 2 => 5 | 3 => 6 | 4 => 2 | 5 => 4 | 6 => 6

/-- A transfer's first row in the gathered array. -/
abbrev row (c : Dev nD) (x : Xf) : ℕ := 1024 * (blk c x).val + cut (lo (piece c x))
/-- How many rows a transfer carries. -/
abbrev len (x : Xf) : ℕ := if x.2.val < 8 then 256 else if x.1 = 2 then 336 else 344

/-- A piece's last row is its first one plus the transfer's length. -/
theorem row_len : ∀ (c : Dev nD) (x : Xf), cut (lo (piece c x)) + len x = cut (hi (piece c x)) := by decide +kernel

/-! ## The semaphores -/

/-- The place of a transfer's semaphore in its array of three rows of four. -/
def slot (x : Xf) : ℕ :=
  if x.2.val < 4 then x.2.val
  else if x.2.val < 8 then (if x.1 = 2 then 4 + x.2.val else x.2.val)
  else if x.1 = 2 then 4 else 8

/-- The slots lie in the array. -/
theorem slot_lt : ∀ x : Xf, slot x < 12 := by decide

/-- The number of the semaphore the sender of a transfer waits on. -/
def sIx (x : Xf) : Fin 73 := ⟨24 * x.1.val + slot x, by have := slot_lt x; have := x.1.isLt; omega⟩
/-- The number of the semaphore the receiver of a transfer waits on. -/
def rIx (x : Xf) : Fin 73 := ⟨24 * x.1.val + 12 + slot x, by have := slot_lt x; have := x.1.isLt; omega⟩

/-- What a transfer semaphore is for. -/
inductive Use | snd (x : Xf) | rcv (x : Xf) | own | none
  deriving DecidableEq

/-- The transfer whose semaphore stands at place `t` of direction `k`'s array. -/
def atSlot (k : Fin 3) (t : ℕ) : Option (Fin 9) := (List.finRange 9).find? fun j => slot (k, j) == t

/-- What the semaphore of number `q` is for. -/
def use (q : Fin 73) : Use :=
  if h : q.val < 72 then
    match atSlot ⟨q.val / 24, by omega⟩ (q.val % 12) with
    | some j => if q.val % 24 < 12 then .snd (⟨q.val / 24, by omega⟩, j) else .rcv (⟨q.val / 24, by omega⟩, j)
    | none => .none
  else .own

/-- A send semaphore's use. -/
theorem use_s : ∀ x : Xf, use (sIx x) = .snd x := by decide +kernel
/-- A receive semaphore's use. -/
theorem use_r : ∀ x : Xf, use (rIx x) = .rcv x := by decide +kernel
/-- The local copy's semaphore. -/
theorem use_own : use 72 = .own := by decide
/-- The semaphore of a send. -/
theorem ix_snd : ∀ (q : Fin 73) (x : Xf), use q = .snd x → q = sIx x := by decide +kernel
/-- The semaphore of a receive. -/
theorem ix_rcv : ∀ (q : Fin 73) (x : Xf), use q = .rcv x → q = rIx x := by decide +kernel
/-- The semaphore of the local copy. -/
theorem ix_own : ∀ q : Fin 73, use q = .own → q = 72 := by decide +kernel

/-- The level of a transfer's receive semaphore: a device waits on it only when every arrival it still owes is of a higher one. -/
def lvl (x : Xf) : ℕ := if x.2.val < 4 then 2 else if x.2.val < 8 then (if x.1 = 2 then 4 else 3) else 5

/-! ## The order of the operations -/

/-- An operation of the body on a transfer: start it, wait for the one arriving, wait for the sending to be over. -/
inductive Op | send (x : Xf) | recv (x : Xf) | done (x : Xf)
  deriving DecidableEq

/-- The operations in the order in which every device performs them. -/
def ops : List Op :=
  [.send (0,0), .send (1,0), .send (2,0), .send (0,1), .send (1,1), .send (2,1),
   .send (0,2), .send (1,2), .send (2,2), .send (0,3), .send (1,3), .send (2,3),
   .recv (0,0), .send (0,4), .recv (1,0), .send (1,4), .recv (0,1), .send (0,5), .recv (1,1), .send (1,5),
   .recv (0,2), .send (0,6), .recv (1,2), .send (1,6), .recv (0,3), .send (0,7), .recv (1,3), .send (1,7),
   .send (2,8),
   .recv (0,4), .recv (1,4), .send (2,4), .recv (0,5), .recv (1,5), .send (2,5),
   .recv (0,6), .recv (1,6), .send (2,6), .recv (0,7), .recv (1,7), .send (2,7),
   .recv (2,0), .recv (2,1), .recv (2,2), .recv (2,3), .recv (2,4), .recv (2,5),
   .send (0,8), .send (1,8), .recv (2,6), .recv (2,7), .recv (0,8), .recv (1,8), .recv (2,8),
   .done (0,0), .done (0,1), .done (0,2), .done (0,3), .done (1,0), .done (1,1), .done (1,2), .done (1,3),
   .done (2,0), .done (2,1), .done (2,2), .done (2,3), .done (0,4), .done (0,5), .done (0,6), .done (0,7),
   .done (1,4), .done (1,5), .done (1,6), .done (1,7), .done (2,4), .done (2,5), .done (2,6), .done (2,7),
   .done (0,8), .done (1,8), .done (2,8)]

/-- No operation occurs twice. -/
theorem ops_nodup : ops.Nodup := by decide +kernel
/-- Every transfer is started, -/
theorem send_mem : ∀ x : Xf, Op.send x ∈ ops := by decide +kernel
/-- awaited by its receiver, -/
theorem recv_mem : ∀ x : Xf, Op.recv x ∈ ops := by decide +kernel
/-- and by its sender. -/
theorem done_mem : ∀ x : Xf, Op.done x ∈ ops := by decide +kernel

/-- When an operation is performed. -/
def time (o : Op) : ℕ := ops.idxOf o

/-- The `n`-th operation is performed at time `n`. -/
theorem time_at {n : ℕ} {o : Op} (h : ops[n]? = some o) : time o = n := by
  obtain ⟨hn, rfl⟩ := List.getElem?_eq_some_iff.mp h
  exact ops_nodup.idxOf_getElem n hn

/-- Only the `n`-th operation is performed at time `n`. -/
theorem time_inj {n : ℕ} {o o' : Op} (h : ops[n]? = some o) (ho' : time o' = n) : o' = o := by
  obtain ⟨hn, rfl⟩ := List.getElem?_eq_some_iff.mp h
  have h' : ops.idxOf o' < ops.length := by rw [show ops.idxOf o' = n from ho']; exact hn
  have := List.getElem_idxOf h'
  rw [← this]
  congr 1

/-- There are 81 operations. -/
theorem ops_length : ops.length = 81 := by decide
/-- Every operation comes before time 81. -/
theorem time_lt {o : Op} (h : o ∈ ops) : time o < 81 := ops_length ▸ List.idxOf_lt_length_of_mem h

/-- Every operation but the `n`-th one is behind at time `n` iff it is at time `n + 1`. -/
theorem time_succ {n : ℕ} {o o' : Op} (h : ops[n]? = some o) (hne : o' ≠ o) : n ≤ time o' ↔ n + 1 ≤ time o' := by
  have : time o' ≠ n := fun h' => hne (time_inj h h')
  omega

/-! ## What a device holds -/

/-- A unit of what is held: half of an interval of a block of the gathered array, or a third of half of a segment of the
    device's own block. -/
inductive At | out (b : Fin 8) (i : Fin 6) (h : Bool) | inp (s : Fin 4) (k : Fin 3)
  deriving DecidableEq

/-- The units one by one. -/
def atEquiv : (Fin 8 × Fin 6 × Bool) ⊕ (Fin 4 × Fin 3) ≃ At where
  toFun u := match u with | .inl (b, i, h) => .out b i h | .inr (s, k) => .inp s k
  invFun a := match a with | .out b i h => .inl (b, i, h) | .inp s k => .inr (s, k)
  left_inv u := by rcases u with ⟨b, i, h⟩ | ⟨s, k⟩ <;> rfl
  right_inv a := by cases a <;> rfl

instance : Fintype At := Fintype.ofEquiv _ atEquiv

/-- A unit's number. -/
def code (a : At) : ℕ := match a with | .out b i h => 12 * b.val + 2 * i.val + h.toNat | .inp s k => 96 + 3 * s.val + k.val

/-- Different units have different numbers. -/
theorem code_inj : ∀ a b : At, code a = code b → a = b := by
  intro a b h
  cases a <;> cases b <;> simp only [code] at h
  · rename_i b i u b' i' u'
    have := Bool.toNat_lt u; have := Bool.toNat_lt u'; have := i.isLt; have := i'.isLt; have := b.isLt; have := b'.isLt
    have h1 : b.val = b'.val := by omega
    have h2 : i.val = i'.val := by omega
    have h3 : u.toNat = u'.toNat := by omega
    rw [Fin.ext h1, Fin.ext h2]; congr 1
    revert h3; cases u <;> cases u' <;> decide
  · rename_i b i u s k
    have := Bool.toNat_lt u; have := i.isLt; have := b.isLt; omega
  · rename_i s k b i u
    have := Bool.toNat_lt u; have := i.isLt; have := b.isLt; omega
  · rename_i s k s' k'
    have := k.isLt; have := k'.isLt
    rw [Fin.ext (show s.val = s'.val by omega), Fin.ext (show k.val = k'.val by omega)]

/-- The units whose numbers are the bits of `M`. -/
def bits (M : ℕ) : Finset At := Finset.univ.filter fun a => M.testBit (code a)

/-- The number whose bits are the units of a list. -/
def mask (l : List At) : ℕ := l.foldr (fun a M => 2 ^ code a ||| M) 0

/-- Membership is a bit. -/
theorem mem_bits {M : ℕ} {a : At} : a ∈ bits M ↔ M.testBit (code a) = true := by simp [bits]

/-- The bits of a list's number are the list's units. -/
theorem mem_bits_mask {l : List At} {a : At} : a ∈ bits (mask l) ↔ a ∈ l := by
  rw [mem_bits]
  induction l with
  | nil => simp [mask]
  | cons b l ih =>
    rw [show mask (b :: l) = 2 ^ code b ||| mask l from rfl, Nat.testBit_or, Bool.or_eq_true, ih, List.mem_cons,
      Nat.testBit_two_pow, decide_eq_true_iff]
    exact or_congr ⟨fun h => (code_inj _ _ h).symm, fun h => h ▸ rfl⟩ Iff.rfl

/-- The bits of a list's number, as the list's set. -/
theorem bits_mask (l : List At) : bits (mask l) = l.toFinset := by
  ext a; rw [mem_bits_mask, List.mem_toFinset]

/-- Taking units away: what is left and what was taken are the whole. -/
theorem bits_xor {M N : ℕ} (h : M &&& N = N) : bits M = bits N ∪ bits (M ^^^ N) := by
  ext a
  have := congrArg (Nat.testBit · (code a)) h
  simp only [Nat.testBit_and] at this
  rw [Finset.mem_union, mem_bits, mem_bits, mem_bits, Nat.testBit_xor]
  revert this; cases M.testBit (code a) <;> cases N.testBit (code a) <;> decide

/-- What is left and what was taken are apart. -/
theorem bits_xor_disjoint {M N : ℕ} (h : M &&& N = N) : Disjoint (bits N) (bits (M ^^^ N)) := by
  rw [Finset.disjoint_left]
  intro a
  have := congrArg (Nat.testBit · (code a)) h
  simp only [Nat.testBit_and] at this
  rw [mem_bits, mem_bits, Nat.testBit_xor]
  revert this; cases M.testBit (code a) <;> cases N.testBit (code a) <;> decide

/-- Adding units. -/
theorem bits_or {M N : ℕ} : bits (M ||| N) = bits N ∪ bits M := by
  ext a
  rw [Finset.mem_union, mem_bits, mem_bits, mem_bits, Nat.testBit_or, Bool.or_eq_true, or_comm]

/-- Units of numbers with no common bit are apart. -/
theorem bits_disjoint {M N : ℕ} (h : M &&& N = 0) : Disjoint (bits N) (bits M) := by
  rw [Finset.disjoint_left]
  intro a
  have := congrArg (Nat.testBit · (code a)) h
  simp only [Nat.testBit_and, Nat.zero_testBit] at this
  rw [mem_bits, mem_bits]
  revert this; cases M.testBit (code a) <;> cases N.testBit (code a) <;> decide

/-- The intervals of a piece. -/
def ivs (p : Fin 7) : List (Fin 6) :=
  match p with | 0 => [0] | 1 => [1, 2] | 2 => [3, 4] | 3 => [5] | 4 => [0, 1] | 5 => [2, 3] | 6 => [4, 5]

/-- Which half of its rows a transfer reads of the gathered array: the third of the third direction reads the other one. -/
def half (x : Xf) : Bool := decide (x = (2, 8))

/-- The units a transfer reads while it is under way. -/
def src (c : Dev nD) (x : Xf) : List At :=
  if h : x.2.val < 4 then [.inp ⟨x.2.val, h⟩ x.1]
  else (ivs (piece c x)).map fun i => .out (blk c x) i (half x)

/-- The units the transfer of this name brings to device `d`. -/
def dst (d : Dev nD) (x : Xf) : List At :=
  (ivs (piece (org d x) x)).flatMap fun i => [.out (blk (org d x) x) i false, .out (blk (org d x) x) i true]

/-- The whole of the device's own block, as its transfers read it. -/
def inps : List At := (List.finRange 4).flatMap fun s => (List.finRange 3).map fun k => .inp s k
/-- The gathered array but block `c`. -/
def outs (c : Dev nD) : List At :=
  (List.finRange 8).flatMap fun b => if b = c then [] else
    (List.finRange 6).flatMap fun i => [At.out b i false, At.out b i true]

/-- What an operation leaves of what was held. -/
def act (c : Dev nD) (M : ℕ) (o : Op) : ℕ :=
  match o with
  | .send x => M ^^^ mask (src c x)
  | .recv x => M ||| mask (dst c x)
  | .done x => M ||| mask (src c x)

/-- What device `c` holds after `n` operations. -/
def held (c : Dev nD) (n : ℕ) : ℕ := (ops.take n).foldl (act c) (mask inps)

/-- An operation's step. -/
theorem held_succ {c : Dev nD} {n : ℕ} {o : Op} (h : ops[n]? = some o) : held c (n + 1) = act c (held c n) o := by
  unfold held
  obtain ⟨hn, rfl⟩ := List.getElem?_eq_some_iff.mp h
  rw [List.take_succ, h, List.foldl_append]; rfl

/-- Whether an operation is possible: what it needs is there, what it brings is not. -/
def ok (c : Dev nD) (M : ℕ) (o : Op) : Bool :=
  match o with
  | .send x => M &&& mask (src c x) == mask (src c x)
  | .recv x => M &&& mask (dst c x) == 0
  | .done x => M &&& mask (src c x) == 0

/-- Whether every operation of a list is possible in its turn. -/
def oks (c : Dev nD) : ℕ → List Op → Bool
  | _, [] => true
  | M, o :: l => ok c M o && oks c (act c M o) l

/-- If all are possible, each is. -/
theorem oks_at {c : Dev nD} : ∀ {l : List Op} {M n : ℕ} {o : Op}, oks c M l = true → l[n]? = some o →
    ok c ((l.take n).foldl (act c) M) o = true
  | [], _, n, o, _, h => by simp at h
  | a :: l, M, 0, o, hl, h => by
    simp only [List.getElem?_cons_zero, Option.some.injEq] at h; subst h
    simp only [oks, Bool.and_eq_true] at hl; exact hl.1
  | a :: l, M, n + 1, o, hl, h => by
    simp only [oks, Bool.and_eq_true] at hl
    rw [List.take_succ_cons, List.foldl_cons]
    exact oks_at hl.2 (by simpa using h)

/-- Every operation of every device is possible in its turn. -/
theorem oks_all : ∀ c : Dev nD, oks c (mask inps) ops = true := by decide +kernel

/-- What a start needs is there. -/
theorem held_send {c : Dev nD} {n : ℕ} {x : Xf} (h : ops[n]? = some (.send x)) :
    held c n &&& mask (src c x) = mask (src c x) := by
  have h' : ok c (held c n) _ = true := oks_at (oks_all c) h
  exact beq_iff_eq.mp h'
/-- What an arrival brings is new. -/
theorem held_recv {c : Dev nD} {n : ℕ} {x : Xf} (h : ops[n]? = some (.recv x)) : held c n &&& mask (dst c x) = 0 := by
  have h' : ok c (held c n) _ = true := oks_at (oks_all c) h
  exact beq_iff_eq.mp h'
/-- What the end of a sending gives back is not there. -/
theorem held_done {c : Dev nD} {n : ℕ} {x : Xf} (h : ops[n]? = some (.done x)) : held c n &&& mask (src c x) = 0 := by
  have h' : ok c (held c n) _ = true := oks_at (oks_all c) h
  exact beq_iff_eq.mp h'

/-- At the end everything but the own block's copy is held. -/
theorem held_end : ∀ c : Dev nD, held c 81 = mask (inps ++ outs c) := by decide +kernel

/-- When an arrival is awaited, every arrival still owed is of a higher level. -/
theorem recv_lvl : ∀ (x y : Xf), time (.recv x) ≤ time (.send y) → lvl x < lvl y := by decide +kernel
/-- A sending is awaited after it was started. -/
theorem send_lt_done : ∀ x : Xf, time (.send x) < time (.done x) := by decide +kernel
/-- When the end of a sending is awaited, nothing is owed. -/
theorem send_lt_dones : ∀ x y : Xf, time (.send y) < time (.done x) := by decide +kernel
/-- Together the arriving transfers bring all but block `d`. -/
theorem dst_cover : ∀ d : Dev nD, ∀ a : At, a ∈ outs d ↔ ∃ x : Xf, a ∈ dst d x := by decide +kernel
/-- No two transfers bring the same. -/
theorem dst_disj : ∀ d : Dev nD, ∀ x y : Xf, x ≠ y → mask (dst d x) &&& mask (dst d y) = 0 := by decide +kernel

/-! ## The kernel's own numbers -/

/-- The devices signalled at the start. -/
theorem dev_sig : ∀ c : Dev nD, k0_dev1 c = (nbr c 0).val ∧ k0_dev2 c = (nbr c 1).val ∧ k0_dev3 c = (nbr c 2).val := by decide +kernel
/-- The devices the own segments go to. -/
theorem dev_own : ∀ c : Dev nD,
    (k0_dev4 c = (nbr c 0).val ∧ k0_dev5 c = (nbr c 1).val ∧ k0_dev6 c = (nbr c 2).val) ∧
    (k0_dev7 c = (nbr c 0).val ∧ k0_dev8 c = (nbr c 1).val ∧ k0_dev9 c = (nbr c 2).val) ∧
    (k0_dev10 c = (nbr c 0).val ∧ k0_dev11 c = (nbr c 1).val ∧ k0_dev12 c = (nbr c 2).val) ∧
    (k0_dev13 c = (nbr c 0).val ∧ k0_dev14 c = (nbr c 1).val ∧ k0_dev15 c = (nbr c 2).val) := by decide +kernel
/-- The devices the forwarded segments go to. -/
theorem dev_fwd : ∀ c : Dev nD,
    (k0_dev16 c = (nbr c 0).val ∧ k0_dev17 c = (nbr c 1).val) ∧ (k0_dev18 c = (nbr c 0).val ∧ k0_dev19 c = (nbr c 1).val) ∧
    (k0_dev20 c = (nbr c 0).val ∧ k0_dev21 c = (nbr c 1).val) ∧ (k0_dev22 c = (nbr c 0).val ∧ k0_dev23 c = (nbr c 1).val) := by decide +kernel
/-- The devices the rest goes to. -/
theorem dev_rest : ∀ c : Dev nD,
    k0_dev24 c = (nbr c 2).val ∧ k0_dev25 c = (nbr c 2).val ∧ k0_dev26 c = (nbr c 2).val ∧ k0_dev27 c = (nbr c 2).val ∧
    k0_dev28 c = (nbr c 2).val ∧ k0_dev29 c = (nbr c 0).val ∧ k0_dev30 c = (nbr c 1).val := by decide +kernel

/-- The rows the own segments go to. -/
theorem off_own : ∀ (c : Dev nD) (k : Fin 3) (r : Fin 4),
    k0_off1 c (BitVec.ofNat 32 (256 * r.val)) = ![row c (k, ⟨r.val, by omega⟩), 0] := by decide +kernel
/-- The rows forwarded to the next device. -/
theorem off_fwd : ∀ (c : Dev nD) (r : Fin 4),
    k0_off3 c (BitVec.ofNat 32 (256 * r.val)) = ![row c (0, ⟨4 + r.val, by omega⟩), 0] := by decide +kernel
/-- The rows forwarded to the previous device. -/
theorem off_bwd : ∀ (c : Dev nD) (r : Fin 4),
    k0_off4 c (BitVec.ofNat 32 (256 * r.val)) = ![row c (1, ⟨4 + r.val, by omega⟩), 0] := by decide +kernel
/-- The rows forwarded to the third partner. -/
theorem off_par : ∀ (c : Dev nD) (r : Fin 4),
    k0_off6 c (BitVec.ofNat 32 (256 * r.val)) = ![row c (2, ⟨4 + r.val, by omega⟩), 0] := by decide +kernel
/-- The thirds of the farthest blocks. -/
theorem off_third : ∀ c : Dev nD,
    k0_off7 c = ![row c (0, 8), 0] ∧ k0_off8 c = ![row c (1, 8), 0] ∧ k0_off5 c = ![row c (2, 8), 0] := by decide +kernel

end Cert.Gather
-- ==== Proof.Regions.lean ====
/-
What a device holds of its two arrays, in units: the gathered array by blocks, intervals of rows and halves of a share;
the device's own block by segments and thirds of half a share.
-/
module

public import proofs.«01_k».proof.Proof.Geo
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The protocol's ghost state: a cell's duties have up to three names. -/
abbrev UB : Type := URounds (GSem nD τ sig) (Fin 3)
/-- The launch's ghost state beside it. -/
abbrev UU : Type := UR sig nD τ × UB

local notation "𝕄" => MT nD τ sig Unit (Elt F) ℕ UU ℕ

/-- Where the launch's ghost state lives, -/
abbrev EP : Emb (UR sig nD τ) (MT nD τ sig Unit (Elt F) ℕ UU ℕ) := embL
/-- and the protocol's. -/
abbrev ER : Emb UB (MT nD τ sig Unit (Elt F) ℕ UU ℕ) := embR

variable (m : (ℓ : Loc nD τ sig) → Buf (Elt F) ℓ)

/-! ## The arrays -/

/-- A device's block. -/
abbrev inLoc (c : Dev nD) : Loc nD τ sig := (c : Thread nD τ).loc main_arg0
/-- A device's gathered array. -/
abbrev outLoc (c : Dev nD) : Loc nD τ sig := (c : Thread nD τ).loc main_v1

/-- Rows `a` to `b` of a block. -/
def inRows (a b : ℕ) : Finset S1024x512.Idx := Finset.univ.filter fun i => a ≤ (i 0).val ∧ (i 0).val < b
/-- Rows `a` to `b` of the gathered array. -/
def outRows (a b : ℕ) : Finset S8192x512.Idx := Finset.univ.filter fun i => a ≤ (i 0).val ∧ (i 0).val < b

/-- Being one of a block's rows. -/
theorem mem_inRows {a b : ℕ} {i : S1024x512.Idx} : i ∈ inRows a b ↔ a ≤ (i 0).val ∧ (i 0).val < b := by simp [inRows]
/-- Being one of the gathered array's rows. -/
theorem mem_outRows {a b : ℕ} {i : S8192x512.Idx} : i ∈ outRows a b ↔ a ≤ (i 0).val ∧ (i 0).val < b := by simp [outRows]

/-- The device a row of the gathered array comes from. -/
def rowDev (i : S8192x512.Idx) : Dev nD :=
  ⟨(i 0).val / 1024, by have h : (i 0).val < 8192 := (i 0).isLt; show _ < 8; omega⟩
/-- The place of that row in the device's block. -/
def rowIdx (i : S8192x512.Idx) : S1024x512.Idx
  | 0 => ⟨(i 0).val % 1024, Nat.mod_lt _ (by decide)⟩
  | 1 => ⟨(i 1).val, (i 1).isLt⟩
/-- The gathered array: row `1024 d + r` is row `r` of device `d`'s block. -/
def G : S8192x512.Idx → Elt F .f32 := fun i => m (inLoc (rowDev i)) (rowIdx i)

/-- The two halves of the full share. -/
def hs (h : Bool) : PosShare TreeShare := if h then fullShare.right else fullShare.left
/-- Three parts of half of the full share. -/
def xs (k : Fin 3) : PosShare TreeShare :=
  match k with | 0 => fullShare.right.left | 1 => fullShare.right.right.left | 2 => fullShare.right.right.right

/-- What holding a unit is: its rows at its share, the gathered array's with contents `f`. -/
def unit (c : Dev nD) (f : Buf (Elt F) (outLoc c)) (a : At) : sProp 𝕄 :=
  match a with
  | .out b i h => outLoc c ↦[outRows (1024 * b.val + cut i.val) (1024 * b.val + cut (i.val + 1))]{hs h} f
  | .inp s k => inLoc c ↦[inRows (256 * s.val) (256 * s.val + 256)]{xs k} m (inLoc c)

omit [FloatOps F] in
instance unit_storable (c : Dev nD) (f) (a : At) : BI.Storable (upEmb : UEmb _ 𝕄) (unit (F := F) m c f a) := by
  cases a <;> (unfold unit; infer_instance)

/-! ## Splitting -/

omit [FloatOps F] in
/-- Rows in two lots, of the gathered array; -/
theorem out_split (c : Dev nD) (f : Buf (Elt F) (outLoc c)) (q : PosShare TreeShare) {a b d : ℕ} (h : a ≤ b) (h' : b ≤ d) :
    (outLoc c ↦[outRows a d]{q} f : sProp 𝕄) = iprop((outLoc c ↦[outRows a b]{q} f) ∗ outLoc c ↦[outRows b d]{q} f) := by
  rw [show outRows a d = outRows a b ∪ outRows b d from by
    ext i; simp only [Finset.mem_union, mem_outRows]; omega]
  have h2 : Disjoint (outRows a b) (outRows b d) := Finset.disjoint_left.mpr fun i hi hj => by
    have := mem_outRows.mp hi; have := mem_outRows.mp hj; omega
  exact BI.Entails.antisymm (pointsTo_union h2).1 (pointsTo_union h2).2

omit [FloatOps F] in
/-- of a block. -/
theorem in_split (c : Dev nD) (f : Buf (Elt F) (inLoc c)) (q : PosShare TreeShare) {a b d : ℕ} (h : a ≤ b) (h' : b ≤ d) :
    (inLoc c ↦[inRows a d]{q} f : sProp 𝕄) = iprop((inLoc c ↦[inRows a b]{q} f) ∗ inLoc c ↦[inRows b d]{q} f) := by
  rw [show inRows a d = inRows a b ∪ inRows b d from by
    ext i; simp only [Finset.mem_union, mem_inRows]; omega]
  have h2 : Disjoint (inRows a b) (inRows b d) := Finset.disjoint_left.mpr fun i hi hj => by
    have := mem_inRows.mp hi; have := mem_inRows.mp hj; omega
  exact BI.Entails.antisymm (pointsTo_union h2).1 (pointsTo_union h2).2

omit [FloatOps F] in
/-- A share in its two halves. -/
theorem share_split {ℓ : Loc nD τ sig} (I : Finset (Idx ℓ)) (f : Buf (Elt F) ℓ) (q : PosShare TreeShare) :
    (ℓ ↦[I]{q} f : sProp 𝕄) = iprop((ℓ ↦[I]{q.left} f) ∗ ℓ ↦[I]{q.right} f) :=
  BI.Entails.antisymm (pointsTo_share (PosShare.mem_left_op_right q)).1 (pointsTo_share (PosShare.mem_left_op_right q)).2

omit [FloatOps F] in
/-- Held things in another bracketing. -/
theorem assoc' (P Q R : sProp 𝕄) : iprop((P ∗ Q) ∗ R) = iprop(P ∗ Q ∗ R) :=
  equiv_iff.mp ⟨sep_assoc, sep_assoc'⟩

omit [FloatOps F] in
/-- Two units. -/
theorem two (Φ : At → sProp 𝕄) {a b : At} (h : a ≠ b) : bigSep {a, b} Φ = iprop(Φ a ∗ Φ b) := by
  rw [bigSep_insert (by rwa [Finset.mem_singleton]), bigSep_singleton]; rfl

/-- The units of one half of a piece. -/
abbrev halfAts (b : Fin 8) (p : Fin 7) (h : Bool) : List At := (ivs p).map fun i => .out b i h
/-- The units of a piece. -/
abbrev fullAts (b : Fin 8) (p : Fin 7) : List At := (ivs p).flatMap fun i => [.out b i false, .out b i true]

omit [FloatOps F] in
/-- One half of a piece is its units. -/
theorem piece_half (c : Dev nD) (f : Buf (Elt F) (outLoc c)) (b : Fin 8) (p : Fin 7) (h : Bool) :
    (outLoc c ↦[outRows (1024 * b.val + cut (lo p)) (1024 * b.val + cut (hi p))]{hs h} f : sProp 𝕄)
      = bigSep (halfAts b p h).toFinset (unit m c f) := by
  have one : ∀ i : Fin 6, lo p = i.val → hi p = i.val + 1 → ivs p = [i] →
      (outLoc c ↦[outRows (1024 * b.val + cut (lo p)) (1024 * b.val + cut (hi p))]{hs h} f : sProp 𝕄)
        = bigSep (halfAts b p h).toFinset (unit m c f) := fun i h1 h2 h3 => by
    rw [halfAts, h1, h2, h3, List.map_cons, List.map_nil, List.toFinset_cons, List.toFinset_nil, insert_empty_eq, bigSep_singleton]
    rfl
  have both : ∀ i j : Fin 6, j.val = i.val + 1 → lo p = i.val → hi p = i.val + 2 → ivs p = [i, j] →
      cut i.val ≤ cut (i.val + 1) → cut (i.val + 1) ≤ cut (i.val + 2) →
      (outLoc c ↦[outRows (1024 * b.val + cut (lo p)) (1024 * b.val + cut (hi p))]{hs h} f : sProp 𝕄)
        = bigSep (halfAts b p h).toFinset (unit m c f) := fun i j hj h1 h2 h3 h4 h5 => by
    rw [halfAts, h1, h2, h3, List.map_cons, List.map_cons, List.map_nil, List.toFinset_cons, List.toFinset_cons, List.toFinset_nil,
      insert_empty_eq, two _ (fun h => by injection h with _ h' _; rw [h'] at hj; omega),
      out_split c f (hs h) (b := 1024 * b.val + cut (i.val + 1)) (by omega) (by omega)]
    rw [show unit m c f (.out b j h) = (outLoc c ↦[outRows (1024 * b.val + cut j.val) (1024 * b.val + cut (j.val + 1))]{hs h} f : sProp 𝕄) from rfl, hj]
    rfl
  match p with
  | 0 => exact one 0 rfl rfl rfl
  | 1 => exact both 1 2 rfl rfl rfl rfl (by decide) (by decide)
  | 2 => exact both 3 4 rfl rfl rfl rfl (by decide) (by decide)
  | 3 => exact one 5 rfl rfl rfl
  | 4 => exact both 0 1 rfl rfl rfl rfl (by decide) (by decide)
  | 5 => exact both 2 3 rfl rfl rfl rfl (by decide) (by decide)
  | 6 => exact both 4 5 rfl rfl rfl rfl (by decide) (by decide)

omit [FloatOps F] in
/-- A piece is its units. -/
theorem piece_full (c : Dev nD) (f : Buf (Elt F) (outLoc c)) (b : Fin 8) (p : Fin 7) :
    (outLoc c ↦[outRows (1024 * b.val + cut (lo p)) (1024 * b.val + cut (hi p))]{fullShare} f : sProp 𝕄)
      = bigSep (fullAts b p).toFinset (unit m c f) := by
  rw [share_split _ f fullShare, show fullShare.left = hs false from rfl, show fullShare.right = hs true from rfl,
    piece_half m, piece_half m,
    show (fullAts b p).toFinset = (halfAts b p false).toFinset ∪ (halfAts b p true).toFinset from by
      ext a; simp only [List.mem_toFinset, Finset.mem_union, List.mem_flatMap, List.mem_map, List.mem_cons, List.not_mem_nil, or_false]
      constructor
      · rintro ⟨i, hi, rfl | rfl⟩
        · exact Or.inl ⟨i, hi, rfl⟩
        · exact Or.inr ⟨i, hi, rfl⟩
      · rintro (⟨i, hi, rfl⟩ | ⟨i, hi, rfl⟩)
        · exact ⟨i, hi, Or.inl rfl⟩
        · exact ⟨i, hi, Or.inr rfl⟩,
    bigSep_union (Finset.disjoint_left.mpr fun a h h' => by
      simp only [List.mem_toFinset, List.mem_map] at h h'
      obtain ⟨i, _, rfl⟩ := h; obtain ⟨j, _, h'⟩ := h'
      injection h' with _ _ h'; cases h')]
  rfl

/-- The units of a block. -/
abbrev blkAts (b : Fin 8) : List At := (List.finRange 6).flatMap fun i => [.out b i false, .out b i true]

/-- Different blocks have no unit in common. -/
theorem blk_apart : ∀ b b' : Fin 8, b ≠ b' → Disjoint (blkAts b).toFinset (blkAts b').toFinset := by decide +kernel

omit [FloatOps F] in
/-- A block of the gathered array is its units. -/
theorem block_full (c : Dev nD) (f : Buf (Elt F) (outLoc c)) (b : Fin 8) :
    (outLoc c ↦[outRows (1024 * b.val) (1024 * b.val + 1024)]{fullShare} f : sProp 𝕄) = bigSep (blkAts b).toFinset (unit m c f) := by
  rw [out_split c f fullShare (b := 1024 * b.val + 344) (by omega) (by omega),
    out_split c f fullShare (a := 1024 * b.val + 344) (b := 1024 * b.val + 688) (by omega) (by omega)]
  have h4 := piece_full m c f b 4
  have h5 := piece_full m c f b 5
  have h6 := piece_full m c f b 6
  simp only [lo, hi, cut, Nat.add_zero] at h4 h5 h6
  rw [h4, h5, h6, show (blkAts b).toFinset = (fullAts b 4).toFinset ∪ ((fullAts b 5).toFinset ∪ (fullAts b 6).toFinset) from by
      clear h4 h5 h6; revert b; decide +kernel,
    bigSep_union (by clear h4 h5 h6; revert b; decide +kernel), bigSep_union (by clear h4 h5 h6; revert b; decide +kernel)]
  rfl

omit [FloatOps F] in
/-- The gathered array is block `c` and the units of the others. -/
theorem out_all (c : Dev nD) (f : Buf (Elt F) (outLoc c)) :
    (outLoc c ↦{fullShare} f : sProp 𝕄)
      = iprop((outLoc c ↦[outRows (1024 * c.val) (1024 * c.val + 1024)]{fullShare} f) ∗ bigSep (outs c).toFinset (unit m c f)) := by
  have hu : (Finset.univ : Finset S8192x512.Idx)
      = (Finset.univ : Finset (Fin 8)).biUnion fun b => outRows (1024 * b.val) (1024 * b.val + 1024) := by
    ext i
    simp only [Finset.mem_univ, Finset.mem_biUnion, true_and, mem_outRows, true_iff]
    have h : (i 0).val < 8192 := (i 0).isLt
    exact ⟨⟨(i 0).val / 1024, by omega⟩, by show 1024 * ((i 0).val / 1024) ≤ _; omega,
      by show _ < 1024 * ((i 0).val / 1024) + 1024; omega⟩
  have h := pointsTo_biUnion (Ix := Unit) (Name := ℕ) (U := UU) (Lvl := ℕ) (ℓ := outLoc c) (f := f) (q := fullShare)
    (Finset.univ : Finset (Fin 8)) (fun b => outRows (1024 * b.val) (1024 * b.val + 1024))
    (fun b _ b' _ hne => Finset.disjoint_left.mpr fun i hi hj => by
      have := mem_outRows.mp hi; have := mem_outRows.mp hj
      exact hne (Fin.ext (by omega)))
  rw [← hu] at h
  refine h.trans ?_
  rw [bigSep_univ_split c]
  refine congrArg (fun P => iprop((outLoc c ↦[outRows (1024 * c.val) (1024 * c.val + 1024)]{fullShare} f) ∗ P)) ?_
  rw [bigSep_congr (fun b _ => block_full m c f b), ← bigSep_biUnion_eq _ _ _ (fun b _ b' _ => blk_apart b b')]
  congr 1
  clear h hu f; revert c; decide +kernel

omit [FloatOps F] in
/-- A segment of the own block at half the share is its three units. -/
theorem seg_units (c : Dev nD) (s : Fin 4) :
    (inLoc c ↦[inRows (256 * s.val) (256 * s.val + 256)]{fullShare.right} m (inLoc c) : sProp 𝕄)
      = iprop(unit m c (G m) (.inp s 0) ∗ unit m c (G m) (.inp s 1) ∗ unit m c (G m) (.inp s 2)) := by
  rw [share_split _ _ fullShare.right, share_split _ _ fullShare.right.right]; rfl

omit [FloatOps F] in
/-- The own block at half the share is its units. -/
theorem in_units (c : Dev nD) : (inLoc c ↦{fullShare.right} m (inLoc c) : sProp 𝕄) = bigSep inps.toFinset (unit m c (G m)) := by
  have hu : (Finset.univ : Finset S1024x512.Idx) = inRows 0 1024 := by
    ext i
    have h : (i 0).val < 1024 := (i 0).isLt
    simp only [Finset.mem_univ, mem_inRows, true_iff]; omega
  show (inLoc c ↦[(Finset.univ : Finset S1024x512.Idx)]{fullShare.right} m (inLoc c) : sProp 𝕄) = _
  rw [hu, in_split c _ _ (b := 256) (by decide) (by decide), in_split c _ _ (a := 256) (b := 512) (by decide) (by decide),
    in_split c _ _ (a := 512) (b := 768) (by decide) (by decide)]
  have h0 := seg_units m c 0
  have h1 := seg_units m c 1
  have h2 := seg_units m c 2
  have h3 := seg_units m c 3
  simp only [Fin.val_zero, Fin.val_one, Fin.val_two, Nat.mul_zero, Nat.zero_add, Nat.mul_one,
    show ((3 : Fin 4).val) = 3 from rfl] at h0 h1 h2 h3
  rw [h0, h1, h2, h3, bigSep_eq_bigSepL_of_eq inps rfl (by decide +kernel)]
  simp only [show inps = [.inp 0 0, .inp 0 1, .inp 0 2, .inp 1 0, .inp 1 1, .inp 1 2, .inp 2 0, .inp 2 1, .inp 2 2,
    .inp 3 0, .inp 3 1, .inp 3 2] from by decide +kernel, bigSepL_cons_cons, bigSepL_singleton]
  simp only [assoc']
  rfl

/-! ## What a transfer reads and what it writes -/

/-- What a transfer reads. -/
def srcPts (c : Dev nD) (x : Xf) : sProp 𝕄 := bigSep (bits (mask (src c x))) (unit m c (G m))
/-- What the transfer of this name writes on device `d`, with contents `f`. -/
def dstPts (d : Dev nD) (x : Xf) (f : Buf (Elt F) (outLoc d)) : sProp 𝕄 := bigSep (bits (mask (dst d x))) (unit m d f)

omit [FloatOps F] in
instance srcPts_storable (c : Dev nD) (x : Xf) : BI.Storable (upEmb : UEmb _ 𝕄) (srcPts (F := F) m c x) := by
  unfold srcPts; infer_instance
omit [FloatOps F] in
instance dstPts_storable (d : Dev nD) (x : Xf) (f) : BI.Storable (upEmb : UEmb _ 𝕄) (dstPts (F := F) m d x f) := by
  unfold dstPts; infer_instance

omit [FloatOps F] in
/-- A transfer writes the rows it says, all of them. -/
theorem dstPts_eq (c : Dev nD) (x : Xf) (f : Buf (Elt F) (outLoc (tgt c x))) :
    dstPts m (tgt c x) x f = (outLoc (tgt c x) ↦[outRows (row c x) (row c x + len x)]{fullShare} f : sProp 𝕄) := by
  unfold dstPts row
  rw [Nat.add_assoc, row_len, piece_full m, bits_mask]
  unfold dst
  rw [show org (tgt c x) x = c from nbr_opp c x.1]

omit [FloatOps F] in
/-- A forwarding reads the rows it writes elsewhere, at one half of the share. -/
theorem srcPts_fwd (c : Dev nD) (x : Xf) (h : 4 ≤ x.2.val) :
    srcPts m c x = (outLoc c ↦[outRows (row c x) (row c x + len x)]{hs (half x)} G m : sProp 𝕄) := by
  unfold srcPts row
  rw [Nat.add_assoc, row_len, piece_half m, bits_mask]
  unfold src
  rw [dif_neg (by omega)]

omit [FloatOps F] in
/-- A first sending reads the segment. -/
theorem srcPts_own (c : Dev nD) (k : Fin 3) (s : Fin 4) :
    srcPts m c (k, ⟨s.val, by omega⟩) = (inLoc c ↦[inRows (256 * s.val) (256 * s.val + 256)]{xs k} m (inLoc c) : sProp 𝕄) := by
  unfold srcPts
  rw [bits_mask]
  unfold src
  rw [dif_pos (show (⟨s.val, _⟩ : Fin 9).val < 4 from s.isLt), List.toFinset_cons, List.toFinset_nil, insert_empty_eq, bigSep_singleton]
  rfl

omit [FloatOps F] in
/-- All but the own block, dealt out by the transfers that will write it. -/
theorem outs_deal (d : Dev nD) (f : Buf (Elt F) (outLoc d)) :
    (bigSep (outs d).toFinset (unit m d f) : sProp 𝕄) = bigSep Finset.univ fun x : Xf => dstPts m d x f := by
  unfold dstPts
  rw [← bigSep_biUnion_eq _ _ _ (fun x _ y _ hne => (bits_disjoint (dst_disj d y x hne.symm)))]
  congr 1
  ext a
  rw [List.mem_toFinset, dst_cover, Finset.mem_biUnion]
  exact exists_congr fun x => by rw [mem_bits_mask]; simp

end Cert.Gather
-- ==== Proof.Slices.lean ====
/-
The transfers' views: which rows they are, and that what a transfer carries is the gathered array's rows.
-/
module

public import proofs.«01_k».proof.Proof.Regions

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The device's block, -/
abbrev xM : Memref sig .tc .hbm S1024x512 .f32 := Memref.whole main_arg0
/-- its gathered array, -/
abbrev oM : Memref sig .tc .hbm S8192x512 .f32 := Memref.whole main_v1
/-- some rows of the one -/
abbrev xS (off size : Fin 2 → ℕ) (inb) := xM.slice (Rect.unit (s := S1024x512) off size inb) (fun _ => rfl)
/-- and of the other. -/
abbrev oS (off size : Fin 2 → ℕ) (inb) := oM.slice (Rect.unit (s := S8192x512) off size inb) (fun _ => rfl)

/-- What a transfer of `n` rows adds to its two semaphores. -/
abbrev amtOf (n : ℕ) : ℕ := sig.dmaCredit .tc (Kind.tc.table .hbm) oM.view.buf ⟨2, ![n, 512]⟩ .f32

/-- Of a transfer, by its name. -/
def amt (x : Xf) : ℕ := amtOf (len x)

/-- It adds something. -/
theorem amtOf_pos {n : ℕ} (h : 0 < n) : 0 < amtOf n :=
  sig.dmaCredit_pos _ _ _ _ _ (by
    rw [show (⟨2, ![n, 512]⟩ : Shape).numel = n * 512 from by simp [Shape.numel, Fin.prod_univ_two]]; omega)

/-- It adds something, by its name. -/
theorem amt_pos (x : Xf) : 0 < amt x := amtOf_pos (by revert x; decide +kernel)

/-- The rows of the gathered array that a view names. -/
theorem oS_set {off size : Fin 2 → ℕ} {inb} {a n : ℕ} (h : off = ![a, 0]) (hs : size = ![n, 512]) :
    (oS off size inb).view.set = outRows a (a + n) := by
  subst h hs
  refine (View.set_slice_whole _ _).trans (Finset.ext fun i => ?_)
  rw [Rect.mem_set_unit, mem_outRows]
  constructor
  · exact fun h => h 0
  · intro h b
    match b with
    | 0 => exact h
    | 1 => exact ⟨Nat.zero_le _, by have h : (i 1).val < 512 := (i 1).isLt; show (i 1).val < 0 + 512; omega⟩

/-- The rows of a block that a view names. -/
theorem xS_set {off size : Fin 2 → ℕ} {inb} {a n : ℕ} (h : off = ![a, 0]) (hs : size = ![n, 512]) :
    (xS off size inb).view.set = inRows a (a + n) := by
  subst h hs
  refine (View.set_slice_whole _ _).trans (Finset.ext fun i => ?_)
  rw [Rect.mem_set_unit, mem_inRows]
  constructor
  · exact fun h => h 0
  · intro h b
    match b with
    | 0 => exact h
    | 1 => exact ⟨Nat.zero_le _, by have h : (i 1).val < 512 := (i 1).isLt; show (i 1).val < 0 + 512; omega⟩

/-- Views that fit transfer `x` of device `c`: the one it reads, the one it writes, and that what arrives is the gathered array's. -/
def Carries (c : Dev nD) (x : Xf) {s : Shape} (S D : Memref sig .tc .hbm s .f32) : Prop :=
  D.view.dmaCredit = amt x ∧
  ∃ (q : PosShare TreeShare) (fs : Buf (Elt F) (S.view.loc (c : Thread nD τ))),
    (srcPts m c x : sProp 𝕄) = (S.view.loc (c : Thread nD τ) ↦[S.view.set]{q} fs) ∧
    ∀ f : Buf (Elt F) (outLoc (tgt c x)), ∃ fd : Buf (Elt F) (D.view.loc (tgt c x : Thread nD τ)),
      (dstPts m (tgt c x) x f : sProp 𝕄) = (D.view.loc (tgt c x : Thread nD τ) ↦[D.view.set]{fullShare} fd) ∧
      (D.view.loc (tgt c x : Thread nD τ) ↦[D.view.set]{fullShare} D.view.write (Elt F) fd (S.view.read (Elt F) fs) Finset.univ : sProp 𝕄)
        = dstPts m (tgt c x) x (G m)

/-- Where the first sendings write. -/
theorem row_own : ∀ (c : Dev nD) (k : Fin 3) (s : Fin 4), row c (k, ⟨s.val, by omega⟩) = 1024 * c.val + 256 * s.val := by decide +kernel

omit [FloatOps F] in
/-- A row of a device's block is the gathered array's, a block further for every device before it. -/
theorem G_own (c : Dev nD) (i : S1024x512.Idx) (j : S8192x512.Idx) (h0 : (j 0).val = 1024 * c.val + (i 0).val) (h1 : (j 1).val = (i 1).val) :
    m (inLoc c) i = G m j := by
  have hi : (i 0).val < 1024 := (i 0).isLt
  have hd : rowDev j = c := Fin.ext (by show (j 0).val / 1024 = c.val; omega)
  have hr : rowIdx j = i := funext fun a => Fin.ext (by
    match a with
    | 0 => show (j 0).val % 1024 = _; omega
    | 1 => exact h1)
  unfold G; rw [hd, hr]

omit [FloatOps F] in
/-- A first sending carries its segment to the segment's rows in the gathered array. -/
theorem carries_own (c : Dev nD) (k : Fin 3) (s : Fin 4) {off off' : Fin 2 → ℕ} {inb inb'}
    (h : off = ![256 * s.val, 0]) (h' : off' = ![row c (k, ⟨s.val, by omega⟩), 0]) :
    Carries m c (k, ⟨s.val, by omega⟩) (xS off S256x512.size inb) (oS off' S256x512.size inb') := by
  have hl : len (k, ⟨s.val, by omega⟩) = 256 := by clear h h'; revert k s; decide
  refine ⟨by unfold amt; rw [hl]; rfl, xs k, m (inLoc c), ?_, fun f => ⟨f, ?_, ?_⟩⟩
  · rw [xS_set h rfl, srcPts_own]
  · rw [oS_set h' rfl, dstPts_eq, hl]
  · rw [dstPts_eq, hl, ← oS_set (inb := inb') h' rfl]
    refine pointsTo_congr fun i hi => ?_
    obtain ⟨j, _, rfl⟩ := Finset.mem_map.mp hi
    rw [View.write_emb_of_mem _ _ (Finset.mem_univ j)]
    subst h h'
    refine G_own m c _ _ ?_ ?_
    · show row c _ + 1 * (j 0).val = 1024 * c.val + (256 * s.val + 1 * (j 0).val)
      rw [row_own]; omega
    · rfl

omit [FloatOps F] in
/-- A forwarding carries rows of the gathered array to the same rows elsewhere. -/
theorem carries_fwd (c : Dev nD) (x : Xf) (hx : 4 ≤ x.2.val) {off off' size : Fin 2 → ℕ} {inb inb'}
    (hs : size = ![len x, 512]) (h : off = ![row c x, 0]) (h' : off' = ![row c x, 0]) :
    Carries m c x (oS off size inb) (oS off' size inb') := by
  subst hs
  refine ⟨rfl, hs (half x), G m, ?_, fun f => ⟨f, ?_, ?_⟩⟩
  · rw [oS_set h rfl, srcPts_fwd _ _ _ hx]
  · rw [oS_set h' rfl, dstPts_eq]
  · rw [dstPts_eq, ← oS_set (inb := inb') h' rfl]
    refine pointsTo_congr fun i hi => ?_
    obtain ⟨j, _, rfl⟩ := Finset.mem_map.mp hi
    rw [View.write_emb_of_mem _ _ (Finset.mem_univ j)]
    subst h h'
    rfl

omit [FloatOps F] in
/-- The local copy carries the device's block to its rows in the gathered array. -/
theorem carries_local (c : Dev nD) {off : Fin 2 → ℕ} {inb} (h : off = ![1024 * c.val, 0]) (f : Buf (Elt F) (outLoc c)) :
    (outLoc c ↦[(oS off S1024x512.size inb).view.set]{fullShare} (oS off S1024x512.size inb).view.write (Elt F) f (xM.view.read (Elt F) (m (inLoc c))) Finset.univ : sProp 𝕄)
      = (outLoc c ↦[outRows (1024 * c.val) (1024 * c.val + 1024)]{fullShare} G m) := by
  rw [← oS_set (inb := inb) h rfl]
  refine pointsTo_congr fun i hi => ?_
  obtain ⟨j, _, rfl⟩ := Finset.mem_map.mp hi
  rw [View.write_emb_of_mem _ _ (Finset.mem_univ j)]
  subst h
  refine G_own m c _ _ ?_ ?_
  · show 1024 * c.val + 1 * (j 0).val = 1024 * c.val + (j 0).val
    omega
  · show 0 + 1 * (j 1).val = (j 1).val
    omega

end Cert.Gather
-- ==== Proof.Protocol.lean ====
/-
The protocol of the semaphores: what each cell's signals hand over, what a device owes, and why it may wait.
-/
module

public import proofs.«01_k».proof.Proof.Slices

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells -/

/-- The barrier's semaphore. -/
abbrev barS : Sem sig := (SemArray.scalar (sig.barrier 0 rfl) : Sems sig S_).sem
/-- A device's barrier cell, -/
abbrev barCell (c : Dev nD) : GSem nD τ sig := ((c : Thread nD τ), .reg barS)
/-- a device's transfer cell, -/
abbrev dCell (c : Dev nD) (q : DmaSem sig) : GSem nD τ sig := ((c : Thread nD τ), .dma q)
/-- the one a transfer's sender waits on, -/
abbrev sCell (c : Dev nD) (x : Xf) : GSem nD τ sig := dCell c (sIx x)
/-- the one its receiver waits on. -/
abbrev rCell (c : Dev nD) (x : Xf) : GSem nD τ sig := dCell c (rIx x)

/-- The cells of one device: the barrier's and the transfers'. -/
abbrev CI : Type := Option (Fin 73)
/-- Their semaphores. -/
abbrev csem : CI → SemLoc sig := fun | none => .reg barS | some q => .dma q
/-- A cell by its device and its place there. -/
abbrev kcell (p : Dev nD × CI) : GSem nD τ sig := ((p.1 : Thread nD τ), csem p.2)

/-! ## The schedule -/

/-- What the partner in direction `k` hands a device with its barrier signal: everything the device will write over there. -/
def barPay (c : Dev nD) (k : Fin 3) : sProp 𝕄 :=
  bigSep Finset.univ fun j : Fin 9 => iprop(∃ f, dstPts m (nbr c k) (k, j) f)

/-- What comes with the end of the local copy. -/
def ownPay (c : Dev nD) : sProp 𝕄 :=
  iprop((outLoc c ↦[outRows (1024 * c.val) (1024 * c.val + 1024)]{fullShare} G m) ∗ (inLoc c ↦{fullShare.left} m (inLoc c)))

/-- The duties of a cell. -/
def dut (q : SemLoc sig) : Finset (Fin 3) :=
  match q with
  | .reg _ => Finset.univ
  | .dma q => match use q with | .none => ∅ | _ => {0}

/-- What a duty adds. -/
def dutAmt (q : SemLoc sig) : ℕ :=
  match q with
  | .reg _ => 1
  | .dma q => match use q with | .snd x => amt x | .rcv x => amt x | .own => amtOf 1024 | .none => 1

/-- What a duty hands over: a partner's array; what a transfer has read; what has arrived; the local copy's two sides. -/
def dutPay (c : Dev nD) (q : SemLoc sig) (k : Fin 3) : sProp 𝕄 :=
  match q with
  | .reg _ => barPay m c k
  | .dma q => match use q with
    | .snd x => srcPts m c x
    | .rcv x => dstPts m c x (G m)
    | .own => ownPay m c
    | .none => iprop(emp)

omit [FloatOps F] in
instance dutPay_storable (c : Dev nD) (q : SemLoc sig) (k : Fin 3) : BI.Storable (upEmb : UEmb _ 𝕄) (dutPay (F := F) m c q k) := by
  unfold dutPay
  split
  · unfold barPay; infer_instance
  · split
    · infer_instance
    · infer_instance
    · unfold ownPay; infer_instance
    · infer_instance

/-- Every cell has one round. -/
def gathRd : Rounds.Schedule (GSem nD τ sig) (Fin 3) 𝕄 where
  duties g r := if r = 0 then dut g.2 else ∅
  unitless _ := False
  amount g _ _ := dutAmt g.2
  payload g _ k := dutPay m g.1.1 g.2 k
  amount_pos g _ _ _ := by
    show 0 < dutAmt g.2
    unfold dutAmt
    split
    · exact Nat.one_pos
    · split
      · exact amt_pos _
      · exact amt_pos _
      · exact amtOf_pos (by decide)
      · exact Nat.one_pos

omit [FloatOps F] in
instance gathRd_storable (g : GSem nD τ sig) (r : ℕ) (d : Fin 3) :
    BI.Storable (upEmb : UEmb _ 𝕄) ((gathRd (F := F) m).payload g r d) := dutPay_storable m g.1.1 g.2 d

section Sched
variable (c : Dev nD) (x : Xf)

omit [FloatOps F] in
/-- No later round has a duty. -/
theorem duties_later (g : GSem nD τ sig) : ∀ r, 1 ≤ r → (gathRd (F := F) m).duties g r = ∅ :=
  fun r hr => if_neg (by omega)
omit [FloatOps F] in
/-- The barrier has three. -/
theorem duties_bar : (gathRd (F := F) m).duties (barCell c) 0 = Finset.univ := rfl
/-- A transfer's two cells have one each, -/
theorem dut_s : dut (.dma (sIx x)) = {0} := by simp only [dut, use_s]
/-- the receiver's too, -/
theorem dut_r : dut (.dma (rIx x)) = {0} := by simp only [dut, use_r]
/-- and the local copy's. -/
theorem dut_own : dut (.dma 72) = {0} := by simp only [dut, use_own]
/-- The amount at the sender's cell, -/
theorem dutAmt_s : dutAmt (.dma (sIx x)) = amt x := by simp only [dutAmt, use_s]
/-- at the receiver's, -/
theorem dutAmt_r : dutAmt (.dma (rIx x)) = amt x := by simp only [dutAmt, use_r]
/-- at the local copy's. -/
theorem dutAmt_own : dutAmt (.dma 72) = amtOf 1024 := by simp only [dutAmt, use_own]
omit [FloatOps F] in
/-- What comes with the sender's cell, -/
theorem dutPay_s (k : Fin 3) : dutPay (F := F) m c (.dma (sIx x)) k = srcPts m c x := by simp only [dutPay, use_s]
omit [FloatOps F] in
/-- with the receiver's, -/
theorem dutPay_r (k : Fin 3) : dutPay (F := F) m c (.dma (rIx x)) k = dstPts m c x (G m) := by simp only [dutPay, use_r]
omit [FloatOps F] in
/-- with the local copy's. -/
theorem dutPay_own (k : Fin 3) : dutPay (F := F) m c (.dma 72) k = ownPay m c := by simp only [dutPay, use_own]

omit [FloatOps F] in
/-- What the barrier's round adds up to, -/
theorem expect_bar : (gathRd (F := F) m).expect (barCell c) 0 = 3 := by
  unfold Schedule.expect Schedule.amountOf
  rw [duties_bar, Finset.sum_congr rfl fun d _ => (rfl : (gathRd (F := F) m).amount (barCell c) 0 d = 1)]
  rfl
omit [FloatOps F] in
/-- and that of a cell of one duty. -/
theorem expect_one {q : DmaSem sig} (h : dut (.dma q) = {0}) : (gathRd (F := F) m).expect (dCell c q) 0 = dutAmt (.dma q) := by
  unfold Schedule.expect Schedule.amountOf
  rw [show (gathRd (F := F) m).duties (dCell c q) 0 = {0} from h, Finset.sum_singleton]
  rfl
omit [FloatOps F] in
/-- What a wait on a cell of one duty brings. -/
theorem rest_one {q : DmaSem sig} (h : dut (.dma q) = {0}) :
    bigSep ((gathRd (F := F) m).duties (dCell c q) 0 \ ∅) (fun d => (gathRd (F := F) m).payload (dCell c q) 0 d) = dutPay m c (.dma q) 0 := by
  rw [Finset.sdiff_empty, show (gathRd (F := F) m).duties (dCell c q) 0 = {0} from h, bigSep_singleton]
  rfl
omit [FloatOps F] in
/-- What the barrier wait brings. -/
theorem rest_bar :
    bigSep ((gathRd (F := F) m).duties (barCell c) 0 \ ∅) (fun d => (gathRd (F := F) m).payload (barCell c) 0 d)
      = bigSep Finset.univ fun x : Xf => iprop(∃ f, dstPts m (tgt c x) x f) := by
  rw [Finset.sdiff_empty, duties_bar, bigSep_univ_prod]
  rfl

end Sched

/-! ## What a device owes; the levels -/

/-- At step `n` a device owes the arrivals of the transfers it has not started. -/
def owedAt (c : Dev nD) (n : ℕ) : CellTallies nD τ sig Unit :=
  ∑ x : Xf with n ≤ time (.send x), tallyAt (rCell (tgt c x) x) () (amt x)

/-- Starting a transfer pays for it; -/
theorem owed_send (c : Dev nD) {n : ℕ} {x : Xf} (h : ops[n]? = some (.send x)) :
    owedAt c n = owedAt c (n + 1) + tallyAt (rCell (tgt c x) x) () (amt x) := by
  unfold owedAt
  have hx := time_at h
  rw [add_comm, ← Finset.sum_insert (s := Finset.univ.filter fun y : Xf => n + 1 ≤ time (.send y)) (a := x)
    (f := fun y => tallyAt (rCell (tgt c y) y) () (amt y)) (by simp only [Finset.mem_filter]; omega)]
  refine Finset.sum_congr (Finset.ext fun y => ?_) fun _ _ => rfl
  simp only [Finset.mem_filter, Finset.mem_univ, true_and, Finset.mem_insert]
  by_cases hy : y = x
  · subst hy; simp only [true_or, iff_true]; omega
  · rw [time_succ h (fun e => hy (by injection e))]; simp only [hy, false_or]
/-- waiting does not. -/
theorem owed_wait (c : Dev nD) {n : ℕ} {o : Op} (h : ops[n]? = some o) (ho : ∀ y, o ≠ .send y) : owedAt c n = owedAt c (n + 1) := by
  unfold owedAt
  refine Finset.sum_congr (Finset.ext fun y => ?_) fun _ _ => rfl
  simp only [Finset.mem_filter, Finset.mem_univ, true_and]
  exact time_succ h (fun e => ho y e.symm)
/-- In the end nothing is owed. -/
theorem owed_end (c : Dev nD) : owedAt c 81 = 0 := by
  unfold owedAt
  refine Finset.sum_eq_zero fun y hy => absurd (Finset.mem_filter.mp hy).2 ?_
  have h := time_lt (send_mem y)
  have hl := ops_length
  omega

/-- What is owed is owed to receivers of transfers not started. -/
theorem owed_pos {c : Dev nD} {n : ℕ} {g : GSem nD τ sig} {u : Unit} (h : 0 < owedAt c n g u) :
    ∃ y, n ≤ time (.send y) ∧ g = rCell (tgt c y) y := by
  unfold owedAt at h
  rw [Finset.sum_apply, Finsupp.finset_sum_apply] at h
  obtain ⟨y, hy, hp⟩ := Finset.exists_ne_zero_of_sum_ne_zero (Nat.pos_iff_ne_zero.mp h)
  refine ⟨y, (Finset.mem_filter.mp hy).2, ?_⟩
  rw [tallyAt_apply] at hp
  by_contra hne
  exact hp (if_neg fun h => hne h.1)

/-- The device's cells have the one index. -/
def L (g : GSem nD τ sig) : Finset Unit := if g.1.2 = .tc then {()} else ∅
/-- The barrier is below every arrival, the ends of the sendings below the barrier. -/
def lv (g : GSem nD τ sig) (_ : Unit) : ℕ :=
  match g.2 with
  | .reg _ => 1
  | .dma q => match use q with | .rcv x => lvl x | _ => 0

/-- Elsewhere there is none. -/
theorem L_of_ne (g : GSem nD τ sig) (h : g.1.2 ≠ .tc) : L g = ∅ := if_neg h
/-- Every semaphore of a device's core has it. -/
theorem L_tc (c : Dev nD) (sm : SemLoc sig) : L ((c : Thread nD τ), sm) = {()} := if_pos rfl

/-- An arrival's level. -/
theorem lv_r (c : Dev nD) (x : Xf) : lv (rCell c x) () = lvl x := by simp only [lv, use_r]
/-- The end of a sending's. -/
theorem lv_s (c : Dev nD) (x : Xf) : lv (sCell c x) () = 0 := by simp only [lv, use_s]
/-- The local copy's. -/
theorem lv_own (c : Dev nD) : lv (dCell c 72) () = 0 := by simp only [lv, use_own]
/-- Arrivals are above the barrier. -/
theorem lvl_pos : ∀ x : Xf, 1 < lvl x := by decide

omit [FloatOps F] in
/-- A device may wait where every arrival it owes is higher. -/
theorem mayWait (c : Dev nD) (sm : SemLoc sig) (n : ℕ)
    (h : ∀ y, n ≤ time (.send y) → lv ((c : Thread nD τ), sm) () < lvl y) :
    (levAts L lv : sProp 𝕄) ⊢ MayWait (c : Thread nD τ) sm () (owedAt c n) :=
  MayOwe.of_cut (L := L) (lev := lv) (lv ((c : Thread nD τ), sm) ()) (fun p hp => by rw [Finset.mem_singleton.mp hp, L_tc]; exact Finset.mem_singleton_self _)
    (fun g u hg => by obtain ⟨y, _, rfl⟩ := owed_pos hg; exact Finset.mem_singleton_self _)
    (fun p hp => by rw [Finset.mem_singleton.mp hp])
    (fun g u hg => by obtain ⟨y, hy, rfl⟩ := owed_pos hg; rw [lv_r]; exact h y hy)

end Cert.Gather
-- ==== Proof.Steps.lean ====
/-
One operation of the body at a time: what a device holds between operations, and what each operation does to it.
-/
module

public import proofs.«01_k».proof.Proof.Protocol

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Units in hand -/

omit [FloatOps F] in
/-- Starting a transfer takes what it reads; -/
theorem units_send {c : Dev nD} {n : ℕ} {x : Xf} (h : ops[n]? = some (.send x)) :
    (bigSep (bits (held c n)) (unit m c (G m)) : sProp 𝕄) = iprop(srcPts m c x ∗ bigSep (bits (held c (n + 1))) (unit m c (G m))) := by
  rw [held_succ h, bits_xor (held_send h), bigSep_union (bits_xor_disjoint (held_send h))]; rfl
omit [FloatOps F] in
/-- an arrival brings what was written; -/
theorem units_recv {c : Dev nD} {n : ℕ} {x : Xf} (h : ops[n]? = some (.recv x)) :
    (bigSep (bits (held c (n + 1))) (unit m c (G m)) : sProp 𝕄) = iprop(dstPts m c x (G m) ∗ bigSep (bits (held c n)) (unit m c (G m))) := by
  rw [held_succ h, show act c (held c n) (.recv x) = held c n ||| mask (dst c x) from rfl, bits_or, bigSep_union (bits_disjoint (held_recv h))]; rfl
omit [FloatOps F] in
/-- the end of a sending brings what was read. -/
theorem units_done {c : Dev nD} {n : ℕ} {x : Xf} (h : ops[n]? = some (.done x)) :
    (bigSep (bits (held c (n + 1))) (unit m c (G m)) : sProp 𝕄) = iprop(srcPts m c x ∗ bigSep (bits (held c n)) (unit m c (G m))) := by
  rw [held_succ h, show act c (held c n) (.done x) = held c n ||| mask (src c x) from rfl, bits_or, bigSep_union (bits_disjoint (held_done h))]; rfl

/-! ## The state -/

/-- The sender's side of a transfer: before, the right to start it and the place it will write; under way, the right to
    wait for its end; after, its cell done with. -/
def sendPart (c : Dev nD) (n : ℕ) (x : Xf) : sProp 𝕄 :=
  if n ≤ time (.send x) then
    iprop(dutyTok ER (sCell c x) 0 0 ∗ dutyTok ER (rCell (tgt c x) x) 0 0 ∗ (∃ f, dstPts m (tgt c x) x f) ∗ atPos ER (sCell c x) 0 ∅ 0)
  else if n ≤ time (.done x) then iprop(cred (tallyAt (sCell c x) () (amt x)) ∗ atPos ER (sCell c x) 0 ∅ 0)
  else atPos ER (sCell c x) 1 ∅ 0

/-- The receiver's side: before, the right to wait; after, its cell done with. -/
def recvPart (c : Dev nD) (n : ℕ) (x : Xf) : sProp 𝕄 :=
  if n ≤ time (.recv x) then iprop(cred (tallyAt (rCell c x) () (amt x)) ∗ atPos ER (rCell c x) 0 ∅ 0)
  else atPos ER (rCell c x) 1 ∅ 0

/-- What a device holds before operation `n`. -/
def St (c : Dev nD) (n : ℕ) : sProp 𝕄 :=
  iprop((∃ W, owes (c : Thread nD τ) (owedAt c n) W) ∗ bigSep Finset.univ (sendPart m c n) ∗ bigSep Finset.univ (recvPart (F := F) c n)
    ∗ bigSep (bits (held c n)) (unit m c (G m)))

omit [FloatOps F] in
/-- Only the operation's own transfer changes on the sender's side, -/
theorem sendPart_same (c : Dev nD) {n : ℕ} {o : Op} (h : ops[n]? = some o) {y : Xf} (h₁ : .send y ≠ o) (h₂ : .done y ≠ o) :
    sendPart m c n y = sendPart m c (n + 1) y := by
  unfold sendPart; simp only [time_succ h h₁, time_succ h h₂]
omit [FloatOps F] in
/-- and on the receiver's. -/
theorem recvPart_same (c : Dev nD) {n : ℕ} {o : Op} (h : ops[n]? = some o) {y : Xf} (h₁ : .recv y ≠ o) :
    recvPart (F := F) c n y = recvPart c (n + 1) y := by
  unfold recvPart; simp only [time_succ h h₁]

omit [FloatOps F] in
/-- Changing one of many held things. -/
theorem focus {ι : Type} [Fintype ι] [DecidableEq ι] {Φ Ψ : ι → sProp 𝕄} (x : ι) (h : ∀ y, y ≠ x → Φ y = Ψ y) :
    bigSep Finset.univ Φ ⊢ iprop(Φ x ∗ (Ψ x -∗ bigSep Finset.univ Ψ)) := by
  rw [bigSep_univ_split x (Φ := Φ), bigSep_univ_split x (Φ := Ψ),
    bigSep_congr (s := Finset.univ.erase x) (Φ := Φ) (Ψ := Ψ) fun y hy => h y (Finset.ne_of_mem_erase hy)]
  show iprop(Φ x ∗ bigSep (Finset.univ.erase x) Ψ) ⊢ iprop(Φ x ∗ (Ψ x -∗ (Ψ x ∗ bigSep (Finset.univ.erase x) Ψ)))
  iintro ⟨Hx, Hr⟩
  isplitl [Hx]; · iexact Hx
  iintro Hx
  isplitl [Hx]; · iexact Hx
  iexact Hr

/-! ## What every device knows -/

/-- The invariants of all cells, under the names `K`, and that each is at its round. -/
def records (K : Dev nD × CI → ℕ) : sProp 𝕄 :=
  iprop((bigSep Finset.univ fun p : Dev nD × CI => cellInv ER (gathRd m) (K p) (kcell p)) ∗ bigSep Finset.univ fun p : Dev nD × CI => reached ER (kcell p) 0)

/-- That and the levels. -/
def ctx (K : Dev nD × CI → ℕ) : sProp 𝕄 := iprop(records m K ∗ levAts L lv)

omit [FloatOps F] in
instance records_persistent (K : Dev nD × CI → ℕ) : BI.Persistent (records (F := F) m K) := by unfold records; infer_instance
omit [FloatOps F] in
instance ctx_persistent (K : Dev nD × CI → ℕ) : BI.Persistent (ctx (F := F) m K) := by unfold ctx; infer_instance

omit [FloatOps F] in
/-- One cell's invariant, -/
theorem inv_of (K : Dev nD × CI → ℕ) (p : Dev nD × CI) : ctx m K ⊢ cellInv ER (gathRd (F := F) m) (K p) (kcell p) := by
  unfold ctx records
  iintro ⟨⟨H, -⟩, -⟩
  have h : (bigSep Finset.univ fun p : Dev nD × CI => (cellInv ER (gathRd (F := F) m) (K p) (kcell p) : sProp 𝕄))
      ⊢ cellInv ER (gathRd (F := F) m) (K p) (kcell p) := bigSep_elim (Finset.mem_univ p)
  iapply h; iexact H
omit [FloatOps F] in
/-- that it is at its round, -/
theorem at_of (K : Dev nD × CI → ℕ) (p : Dev nD × CI) : ctx m K ⊢ (reached ER (kcell p) 0 : sProp 𝕄) := by
  unfold ctx records
  iintro ⟨⟨-, H⟩, -⟩
  have h : (bigSep Finset.univ fun p : Dev nD × CI => (reached ER (kcell p) 0 : sProp 𝕄)) ⊢ reached ER (kcell p) 0 :=
    bigSep_elim (Finset.mem_univ p)
  iapply h; iexact H
omit [FloatOps F] in
/-- the levels. -/
theorem lev_of (K : Dev nD × CI → ℕ) : ctx m K ⊢ (levAts L lv : sProp 𝕄) := by
  unfold ctx; iintro ⟨-, H⟩; iexact H

/-! ## The operations -/

/-- No variants. -/
abbrev 𝒱₀ : Variants := Variants.none

/-- Running on a device's core. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Ops
variable (K : Dev nD × CI → ℕ) (c : Dev nD) {n : ℕ}

/-- Starting a transfer. -/
theorem step_send {x : Xf} (h : ops[n]? = some (.send x)) {d : Dev nD} (hd : d = tgt c x) {s : Shape} {S D : Memref sig .tc .hbm s .f32}
    (hC : Carries m c x S D) {q₁ q₂ : DmaSem sig} (h₁ : q₁ = sIx x) (h₂ : q₂ = rIx x)
    {hsc : (D : Memref sig (Dev.tc d : Thread nD τ).2.kind .hbm s .f32).view.ref.isScScratch = false}
    {hsrc : S.view.WordExact} {hdst : D.view.WordExact} {hsem : DmaTarget.Typed .hbm (.dma q₂) (.remote (Dev.tc d : Thread nD τ) D (.dma q₁) hsc)}
    {α : Type} {Q : α → sProp 𝕄} {k : PUnit → Prog (TpuEff nD τ sig (Elt F) Λ₀ .tc) α} :
    iprop(ctx m K ∗ St m c n)
      ⊢ iprop((St m c (n + 1) -∗ Wp c (k ⟨⟩) Q)
          -∗ Wp c (.op (.enqueueDma S (.remote (Dev.tc d : Thread nD τ) D (.dma q₁) hsc) (.dma q₂) hsrc hdst hsem) k) Q) := by
  subst hd h₁ h₂
  obtain ⟨hN, q, fs, hS, hD⟩ := hC
  unfold St
  iintro ⟨#Hctx, ⟨%W, HO⟩, Hs, Hr, Hu⟩ Hk
  rw [owed_send c h]
  ihave Hu := (Entails.of_eq (units_send m h)) $$ Hu
  icases Hu with ⟨Hsrc, Hu⟩
  ihave Hsrc := (Entails.of_eq hS) $$ Hsrc
  ihave H := (focus x fun y hy => sendPart_same m c h (fun e => hy (by injection e)) (fun e => by cases e)) $$ Hs
  icases H with ⟨Hx, Hs⟩
  ihave Hx := (Entails.of_eq (show sendPart m c n x = iprop(dutyTok ER (sCell c x) 0 0 ∗ dutyTok ER (rCell (tgt c x) x) 0 0 ∗ (∃ f, dstPts m (tgt c x) x f) ∗ atPos ER (sCell c x) 0 ∅ 0) from
    if_pos (time_at h).ge)) $$ Hx
  icases Hx with ⟨Ht1, Ht2, ⟨%f, Hdst⟩, Hat⟩
  obtain ⟨fd, hd1, hd2⟩ := hD f
  ihave Hdst := (Entails.of_eq hd1) $$ Hdst
  ihave #Hi1 := (inv_of m K (c, some (sIx x))) $$ Hctx
  ihave #Hi2 := (inv_of m K (tgt c x, some (rIx x))) $$ Hctx
  ihave #Ha1 := (at_of m K (c, some (sIx x))) $$ Hctx
  ihave #Ha2 := (at_of m K (tgt c x, some (rIx x))) $$ Hctx
  iapply (Rounds.wp_send_pointsTo 𝒱₀ ER (gathRd m) (c : Thread nD τ) none (κ₁ := K (c, some (sIx x))) (κ₂ := K (tgt c x, some (rIx x)))
    (sS := .dma (sIx x)) (sem := .dma (rIx x)) (r₁ := 0) (r₂ := 0) (d₁ := 0) (d₂ := 0) (fd := fd) (q := q) (fs := fs)
    (by rw [show (gathRd m).duties (sCell c x) 0 = {0} from dut_s x]; exact Finset.mem_singleton_self _)
    (by rw [show (gathRd m).duties (rCell (tgt c x) x) 0 = {0} from dut_r x]; exact Finset.mem_singleton_self _)
    () () (amt x) ((View.amount_dma _ (rIx x)).trans hN) (dutAmt_s x) (dutAmt_r x) (owedAt c (n + 1)) rfl (W := W)
    (by rw [show (gathRd m).payload (sCell c x) 0 0 = srcPts m c x from dutPay_s m c x 0, hS])
    (by rw [show (gathRd m).payload (rCell (tgt c x) x) 0 0 = dstPts m (tgt c x) x (G m) from dutPay_r m _ x 0]; exact Entails.of_eq hd2))
    $$ [Hsrc Hdst HO Ht1 Ht2]
  · isplitr; · iexact Hi1
    isplitr; · iexact Hi2
    isplitl [Hsrc]; · iexact Hsrc
    isplitl [Hdst]; · iexact Hdst
    isplitl [HO]; · iexact HO
    isplitl [Ht1]; · iexact Ht1
    isplitr; · iexact Ha1
    isplitl [Ht2]; · iexact Ht2
    iexact Ha2
  iintro ⟨Hc, HO⟩
  iapply Hk
  isplitl [HO]; · iexists W; iexact HO
  isplitl [Hs Hc Hat]
  · iapply Hs
    rw [show sendPart m c (n + 1) x = iprop(cred (tallyAt (sCell c x) () (amt x)) ∗ atPos ER (sCell c x) 0 ∅ 0) from
      (if_neg (by have := time_at h; omega)).trans (if_pos (by have := time_at h; have := send_lt_done x; omega))]
    isplitl [Hc]; · iexact Hc
    iexact Hat
  isplitl [Hr]
  · rw [show (recvPart (F := F) c (n + 1)) = recvPart c n from funext fun y => (recvPart_same c h (fun e => by cases e)).symm]
    iexact Hr
  iexact Hu

/-- Waiting for an arrival. -/
theorem step_recv {x : Xf} (h : ops[n]? = some (.recv x)) {sp : Space} {s : Shape} {S : Memref sig .tc sp s .f32} {D : Memref sig .tc .hbm s .f32}
    (hN : D.view.dmaCredit = amt x) {q₂ : DmaSem sig} (h₂ : q₂ = rIx x)
    {hsrc : S.view.WordExact} {hdst : D.view.WordExact}
    {α : Type} {Q : α → sProp 𝕄} {k : PUnit → Prog (TpuEff nD τ sig (Elt F) Λ₀ .tc) α} :
    iprop(ctx m K ∗ St m c n)
      ⊢ iprop((St m c (n + 1) -∗ Wp c (k ⟨⟩) Q) -∗ Wp c (.op (.waitDma2 q₂ S D hsrc hdst) k) Q) := by
  subst h₂
  unfold St
  iintro ⟨#Hctx, ⟨%W, HO⟩, Hs, Hr, Hu⟩ Hk
  ihave H := (focus x fun y hy => recvPart_same (F := F) c h (fun e => hy (by injection e))) $$ Hr
  icases H with ⟨Hx, Hr⟩
  ihave Hx := (Entails.of_eq (show recvPart (F := F) c n x = iprop(cred (tallyAt (rCell c x) () (amt x)) ∗ atPos ER (rCell c x) 0 ∅ 0) from
    if_pos (time_at h).ge)) $$ Hx
  icases Hx with ⟨Hc, Hat⟩
  ihave #Hi1 := (inv_of m K (c, some (rIx x))) $$ Hctx
  ihave #Hlev := (lev_of m K) $$ Hctx
  iapply (Rounds.wp_wait_rest_token 𝒱₀ ER (gathRd m) (c : Thread nD τ) none (κ := K (c, some (rIx x)))
      (wpE_waitDma2_eq 𝒱₀ (c : Thread nD τ) none Set.univ) (Set.mem_univ _) () (O := owedAt c n) (W := W) (R := 0) (m := 0) (T := ∅)
      (by rw [Nat.zero_add, expect_one m c (dut_r x), dutAmt_r]; exact hN)) $$ [Hc HO Hat]
  · isplitr; · iexact Hi1
    isplitl [Hc]; · rw [hN]; iexact Hc
    isplitl [HO]; · iexact HO
    isplitr
    · iapply (mayWait c (.dma (rIx x)) n fun y hy => by
        rw [lv_r]; exact recv_lvl x y (by rw [time_at h]; exact hy))
      iexact Hlev
    iexact Hat
  iintro ⟨HO, Hat, -, Hp⟩
  ihave Hp := (Entails.of_eq ((rest_one m c (dut_r x)).trans (dutPay_r m c x 0))) $$ Hp
  iapply Hk
  rw [units_recv m h, ← owed_wait c h (fun y e => by cases e)]
  isplitl [HO]; · iexists _; iexact HO
  isplitl [Hs]
  · rw [show sendPart m c (n + 1) = sendPart m c n from funext fun y => (sendPart_same m c h (fun e => by cases e) (fun e => by cases e)).symm]
    iexact Hs
  isplitl [Hr Hat]
  · iapply Hr
    rw [show recvPart (F := F) c (n + 1) x = atPos ER (rCell c x) 1 ∅ 0 from if_neg (by have := time_at h; omega)]
    iexact Hat
  isplitl [Hp]; · iexact Hp
  iexact Hu

/-- Waiting for the end of a sending. -/
theorem step_done {x : Xf} (h : ops[n]? = some (.done x)) {sp sp' : Space} {s : Shape} {S : Memref sig .tc sp s .f32} {D : Memref sig .tc sp' s .f32}
    (hN : D.view.dmaCredit = amt x) {q₁ : DmaSem sig} (h₁ : q₁ = sIx x)
    {hsrc : S.view.WordExact} {hdst : D.view.WordExact}
    {α : Type} {Q : α → sProp 𝕄} {k : PUnit → Prog (TpuEff nD τ sig (Elt F) Λ₀ .tc) α} :
    iprop(ctx m K ∗ St m c n)
      ⊢ iprop((St m c (n + 1) -∗ Wp c (k ⟨⟩) Q) -∗ Wp c (.op (.waitDma2 q₁ S D hsrc hdst) k) Q) := by
  subst h₁
  unfold St
  iintro ⟨#Hctx, ⟨%W, HO⟩, Hs, Hr, Hu⟩ Hk
  ihave H := (focus x fun y hy => sendPart_same m c h (fun e => by cases e) (fun e => hy (by injection e))) $$ Hs
  icases H with ⟨Hx, Hs⟩
  ihave Hx := (Entails.of_eq (show sendPart m c n x = iprop(cred (tallyAt (sCell c x) () (amt x)) ∗ atPos ER (sCell c x) 0 ∅ 0) from
    (if_neg (by have := time_at h; have := send_lt_done x; omega)).trans (if_pos (time_at h).ge))) $$ Hx
  icases Hx with ⟨Hc, Hat⟩
  ihave #Hi1 := (inv_of m K (c, some (sIx x))) $$ Hctx
  ihave #Hlev := (lev_of m K) $$ Hctx
  iapply (Rounds.wp_wait_rest_token 𝒱₀ ER (gathRd m) (c : Thread nD τ) none (κ := K (c, some (sIx x)))
      (wpE_waitDma2_eq 𝒱₀ (c : Thread nD τ) none Set.univ) (Set.mem_univ _) () (O := owedAt c n) (W := W) (R := 0) (m := 0) (T := ∅)
      (by rw [Nat.zero_add, expect_one m c (dut_s x), dutAmt_s]; exact hN)) $$ [Hc HO Hat]
  · isplitr; · iexact Hi1
    isplitl [Hc]; · rw [hN]; iexact Hc
    isplitl [HO]; · iexact HO
    isplitr
    · iapply (mayWait c (.dma (sIx x)) n fun y _ => by
        rw [lv_s]; exact Nat.lt_of_succ_lt (lvl_pos y))
      iexact Hlev
    iexact Hat
  iintro ⟨HO, Hat, -, Hp⟩
  ihave Hp := (Entails.of_eq ((rest_one m c (dut_s x)).trans (dutPay_s m c x 0))) $$ Hp
  iapply Hk
  rw [units_done m h, ← owed_wait c h (fun y e => by cases e)]
  isplitl [HO]; · iexists _; iexact HO
  isplitl [Hs Hat]
  · iapply Hs
    rw [show sendPart m c (n + 1) x = atPos ER (sCell c x) 1 ∅ 0 from
      (if_neg (by have := time_at h; have := send_lt_done x; omega)).trans (if_neg (by have := time_at h; omega))]
    iexact Hat
  isplitl [Hr]
  · rw [show (recvPart (F := F) c (n + 1)) = recvPart c n from funext fun y => (recvPart_same c h (fun e => by cases e)).symm]
    iexact Hr
  isplitl [Hp]; · iexact Hp
  iexact Hu

end Ops

end Cert.Gather
-- ==== Proof.Runs.lean ====
/-
Pieces of the body: from what a device holds before one to what it holds after it, and how pieces are put together.
-/
module

public import proofs.«01_k».proof.Proof.Steps

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The local copy: not begun, under way, over. -/
def ownPart (c : Dev nD) (i : Fin 3) : sProp 𝕄 :=
  match i with
  | 0 => iprop(dutyTok ER (dCell c 72) 0 0 ∗ (∃ f, outLoc c ↦[outRows (1024 * c.val) (1024 * c.val + 1024)]{fullShare} f)
      ∗ (inLoc c ↦{fullShare.left} m (inLoc c)) ∗ atPos ER (dCell c 72) 0 ∅ 0)
  | 1 => iprop(cred (tallyAt (dCell c 72) () (amtOf 1024)) ∗ atPos ER (dCell c 72) 0 ∅ 0)
  | 2 => iprop(ownPay m c ∗ atPos ER (dCell c 72) 1 ∅ 0)

/-- What a device holds, the barrier behind it, the local copy at stage `i`, before operation `n`. -/
def Mid (c : Dev nD) (i : Fin 3) (n : ℕ) : sProp 𝕄 :=
  iprop((atPos ER (barCell c) 1 ∅ 0 ∗ ownPart m c i) ∗ St m c n)

/-- A piece of the body leads from holding `P` to holding `P'` with a result as `Φ` says. -/
def Runs (c : Dev nD) (P P' : sProp 𝕄) {α : Type} (p : Prog (TpuEff nD τ sig (Elt F) Λ₀ .tc) α) (Φ : α → Prop) : Prop :=
  ∀ (K : Dev nD × CI → ℕ) (Q : α → sProp 𝕄),
    iprop(ctx m K ∗ P) ⊢ iprop((∀ r, ⌜Φ r⌝ -∗ P' -∗ Q r) -∗ Wp c p Q)

section
variable {m} {c : Dev nD} {P P' P'' : sProp (MT nD τ sig Unit (Elt F) ℕ UU ℕ)} {α β : Type} {Φ : α → Prop} {Ψ : β → Prop}

/-- Doing nothing. -/
theorem Runs.ret {r : α} (h : Φ r) : Runs m c P P (Prog.ret r) Φ := by
  intro K Q
  rw [Wp, wp_ret]
  iintro ⟨-, HP⟩ Hk
  imodintro
  iapply Hk $$ %r [] HP
  ipureintro; exact h

/-- One piece and then another. -/
theorem Runs.bind {p : Prog (TpuEff nD τ sig (Elt F) Λ₀ .tc) α} {f : α → Prog (TpuEff nD τ sig (Elt F) Λ₀ .tc) β}
    (h : Runs m c P P' p Φ) (h' : ∀ r, Φ r → Runs m c P' P'' (f r) Ψ) : Runs m c P P'' (p >>= f) Ψ := by
  intro K Q
  rw [Wp, wp_bind]
  iintro ⟨#Hctx, HP⟩ Hk
  iapply (h K _) $$ [HP]
  · isplitr; · iexact Hctx
    iexact HP
  iintro %r %hr HP
  iapply (h' r hr K Q) $$ [HP]
  · isplitr; · iexact Hctx
    iexact HP
  iexact Hk

/-- The device's number is the device's. -/
theorem Runs.device {k : Dev nD → Prog (TpuEff nD τ sig (Elt F) Λ₀ .tc) α} (h : Runs m c P P' (k c) Φ) :
    Runs m c P P' (.op .deviceId k) Φ := by
  intro K Q
  rw [Wp, wp_deviceId]
  exact h K Q

end

section
variable {m} {c : Dev nD} {i : Fin 3} {n : ℕ} {P' : sProp (MT nD τ sig Unit (Elt F) ℕ UU ℕ)} {α : Type} {Φ : α → Prop}
  {k : PUnit → Prog (TpuEff nD τ sig (Elt F) Λ₀ .tc) α}

/-- Starting a transfer. -/
theorem Runs.send {x : Xf} (h : ops[n]? = some (.send x)) {d : Dev nD} (hd : d.val = (tgt c x).val) {s : Shape} {S D : Memref sig .tc .hbm s .f32}
    (hC : Carries m c x S D) {q₁ q₂ : DmaSem sig} (h₁ : q₁ = sIx x) (h₂ : q₂ = rIx x)
    {hsc : (D : Memref sig (Dev.tc d : Thread nD τ).2.kind .hbm s .f32).view.ref.isScScratch = false}
    {hsrc : S.view.WordExact} {hdst : D.view.WordExact} {hsem : DmaTarget.Typed .hbm (.dma q₂) (.remote (Dev.tc d : Thread nD τ) D (.dma q₁) hsc)}
    (hk : Runs m c (Mid m c i (n + 1)) P' (k ⟨⟩) Φ) :
    Runs m c (Mid m c i n) P' (.op (.enqueueDma S (.remote (Dev.tc d : Thread nD τ) D (.dma q₁) hsc) (.dma q₂) hsrc hdst hsem) k) Φ := by
  intro K Q
  have hk := hk K Q
  unfold Mid at hk ⊢
  iintro ⟨#Hctx, HR, HS⟩ Hk
  iapply (step_send m K c h (Fin.ext hd) hC h₁ h₂) $$ [HS]
  · isplitr; · iexact Hctx
    iexact HS
  iintro HS
  iapply hk $$ [HR HS]
  · isplitr; · iexact Hctx
    isplitl [HR]; · iexact HR
    iexact HS
  iexact Hk

/-- Waiting for an arrival. -/
theorem Runs.recv {x : Xf} (h : ops[n]? = some (.recv x)) {sp : Space} {s : Shape} {S : Memref sig .tc sp s .f32} {D : Memref sig .tc .hbm s .f32}
    (hN : D.view.dmaCredit = amt x) {q₂ : DmaSem sig} (h₂ : q₂ = rIx x) {hsrc : S.view.WordExact} {hdst : D.view.WordExact}
    (hk : Runs m c (Mid m c i (n + 1)) P' (k ⟨⟩) Φ) :
    Runs m c (Mid m c i n) P' (.op (.waitDma2 q₂ S D hsrc hdst) k) Φ := by
  intro K Q
  have hk := hk K Q
  unfold Mid at hk ⊢
  iintro ⟨#Hctx, HR, HS⟩ Hk
  iapply (step_recv m K c h hN h₂) $$ [HS]
  · isplitr; · iexact Hctx
    iexact HS
  iintro HS
  iapply hk $$ [HR HS]
  · isplitr; · iexact Hctx
    isplitl [HR]; · iexact HR
    iexact HS
  iexact Hk

/-- Waiting for the end of a sending. -/
theorem Runs.done {x : Xf} (h : ops[n]? = some (.done x)) {sp sp' : Space} {s : Shape} {S : Memref sig .tc sp s .f32} {D : Memref sig .tc sp' s .f32}
    (hN : D.view.dmaCredit = amt x) {q₁ : DmaSem sig} (h₁ : q₁ = sIx x) {hsrc : S.view.WordExact} {hdst : D.view.WordExact}
    (hk : Runs m c (Mid m c i (n + 1)) P' (k ⟨⟩) Φ) :
    Runs m c (Mid m c i n) P' (.op (.waitDma2 q₁ S D hsrc hdst) k) Φ := by
  intro K Q
  have hk := hk K Q
  unfold Mid at hk ⊢
  iintro ⟨#Hctx, HR, HS⟩ Hk
  iapply (step_done m K c h hN h₁) $$ [HS]
  · isplitr; · iexact Hctx
    iexact HS
  iintro HS
  iapply hk $$ [HR HS]
  · isplitr; · iexact Hctx
    isplitl [HR]; · iexact HR
    iexact HS
  iexact Hk

/-- Starting the local copy. -/
theorem Runs.copy {off : Fin 2 → ℕ} {inb} (ho : off = ![1024 * c.val, 0]) {q : DmaSem sig} (hq : q = 72)
    {hsrc : (xM : Memref sig .tc .hbm S1024x512 .f32).view.WordExact} {hdst : (oS off S1024x512.size inb).view.WordExact}
    {hsem : DmaTarget.Typed (nD := nD) (τ := τ) (p := .tc) .hbm (.dma q) (.here (oS off S1024x512.size inb))}
    (hk : Runs m c (Mid m c 1 n) P' (k ⟨⟩) Φ) :
    Runs m c (Mid m c 0 n) P' (.op (.enqueueDma xM (.here (oS off S1024x512.size inb)) (.dma q) hsrc hdst hsem) k) Φ := by
  subst hq
  intro K Q
  have hk := hk K Q
  unfold Mid at hk ⊢
  unfold ownPart at hk ⊢
  iintro ⟨#Hctx, ⟨HB, Ht, ⟨%f, Hout⟩, Hin, Hat⟩, HS⟩ Hk
  ihave #Hi := (inv_of m K (c, some 72)) $$ Hctx
  ihave #Ha := (at_of m K (c, some 72)) $$ Hctx
  iapply (Rounds.wp_copy_pointsTo 𝒱₀ ER (gathRd m) (c : Thread nD τ) none (κ := K (c, some 72)) (sem := .dma 72) (r := 0) (d := 0)
      (src := xM) (dst := oS off S1024x512.size inb) (q := fullShare.left) (fs := m (inLoc c)) (fd := f)
      (by rw [show (gathRd m).duties (dCell c 72) 0 = {0} from dut_own]; exact Finset.mem_singleton_self _)
      () (amtOf 1024) rfl dutAmt_own
      (by rw [show (gathRd m).payload (dCell c 72) 0 0 = ownPay m c from dutPay_own m c 0]
          unfold ownPay
          rw [View.set_whole]
          exact sep_mono_left (Entails.of_eq (carries_local m c ho f)))) $$ [Ht Hout Hin]
  · isplitr; · iexact Hi
    isplitl [Hin]; · rw [View.set_whole]; iexact Hin
    isplitl [Hout]; · rw [oS_set (n := 1024) ho rfl]; iexact Hout
    isplitl [Ht]; · iexact Ht
    iexact Ha
  iintro Hc
  iapply hk $$ [HB Hc Hat HS]
  · isplitr; · iexact Hctx
    isplitl [HB Hc Hat]
    · isplitl [HB]; · iexact HB
      isplitl [Hc]; · iexact Hc
      iexact Hat
    iexact HS
  iexact Hk

/-- Waiting for its end. -/
theorem Runs.copied {off : Fin 2 → ℕ} {inb} {q : DmaSem sig} (hq : q = 72)
    {hsrc : (xM : Memref sig .tc .hbm S1024x512 .f32).view.WordExact} {hdst : (oS off S1024x512.size inb).view.WordExact}
    (hk : Runs m c (Mid m c 2 n) P' (k ⟨⟩) Φ) :
    Runs m c (Mid m c 1 n) P' (.op (.waitDma2 q xM (oS off S1024x512.size inb) hsrc hdst) k) Φ := by
  subst hq
  intro K Q
  have hk := hk K Q
  unfold Mid at hk ⊢
  unfold ownPart St at hk ⊢
  iintro ⟨#Hctx, ⟨HB, Hc, Hat⟩, ⟨⟨%W, HO⟩, HS⟩⟩ Hk
  ihave #Hi := (inv_of m K (c, some 72)) $$ Hctx
  ihave #Hlev := (lev_of m K) $$ Hctx
  iapply (Rounds.wp_wait_rest_token 𝒱₀ ER (gathRd m) (c : Thread nD τ) none (κ := K (c, some 72))
      (wpE_waitDma2_eq 𝒱₀ (c : Thread nD τ) none Set.univ) (Set.mem_univ _) () (O := owedAt c n) (W := W) (R := 0) (m := 0) (T := ∅)
      (by rw [Nat.zero_add, expect_one m c dut_own, dutAmt_own]; rfl)) $$ [Hc HO Hat]
  · isplitr; · iexact Hi
    isplitl [Hc]; · iexact Hc
    isplitl [HO]; · iexact HO
    isplitr
    · iapply (mayWait c (.dma 72) n fun y _ => by
        rw [lv_own]; exact Nat.lt_of_succ_lt (lvl_pos y))
      iexact Hlev
    iexact Hat
  iintro ⟨HO, Hat, -, Hp⟩
  ihave Hp := (Entails.of_eq ((rest_one m c dut_own).trans (dutPay_own m c 0))) $$ Hp
  iapply hk $$ [HB Hp Hat HO HS]
  · isplitr; · iexact Hctx
    isplitl [HB Hp Hat]
    · isplitl [HB]; · iexact HB
      isplitl [Hp]; · iexact Hp
      iexact Hat
    isplitl [HO]; · iexists _; iexact HO
    iexact HS
  iexact Hk

end

end Cert.Gather
-- ==== Proof.Barrier.lean ====
/-
The barrier at the start of the body: every device hands its partners its array, each the rows it will write there.
-/
module

public import proofs.«01_k».proof.Proof.Runs
public import proofs.«01_k».proof.Proof.Gen.KernelIdeal.Skeleton

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- What a device owes before the signal in direction `k`: its later signals and all arrivals. -/
def owedSig (c : Dev nD) (k : ℕ) : CellTallies nD τ sig Unit :=
  match k with
  | 0 => owedSig c 1 + tallyAt (barCell (nbr c 0)) () 1
  | 1 => owedSig c 2 + tallyAt (barCell (nbr c 1)) () 1
  | 2 => owedSig c 3 + tallyAt (barCell (nbr c 2)) () 1
  | _ => owedAt c 0
termination_by 3 - k

/-- What a device gives away with a signal: the rows of its array that arrive from that direction. -/
def giveAway (c : Dev nD) (k : Fin 3) : sProp 𝕄 := bigSep Finset.univ fun j : Fin 9 => iprop(∃ f, dstPts m c (k, j) f)

omit [FloatOps F] in
/-- That is what the signal hands over. -/
theorem giveAway_eq (c : Dev nD) (k : Fin 3) : barPay m (nbr c k) (opp k) = giveAway m c (opp k) := by
  unfold barPay giveAway; rw [nbr_opp]

/-- What a device needs for the signal in direction `k`. -/
def sigPart (c : Dev nD) (k : Fin 3) : sProp 𝕄 := iprop(dutyTok ER (barCell (nbr c k)) 0 (opp k) ∗ giveAway m c (opp k))

/-- The sender's side of a transfer before the barrier. -/
def sendPre (c : Dev nD) (x : Xf) : sProp 𝕄 :=
  iprop(dutyTok ER (sCell c x) 0 0 ∗ dutyTok ER (rCell (tgt c x) x) 0 0 ∗ atPos ER (sCell c x) 0 ∅ 0)

/-- What a device starts the body with, but for what it owes; -/
def Hold (c : Dev nD) : sProp 𝕄 :=
  iprop((sigPart m c 0 ∗ sigPart m c 1 ∗ sigPart m c 2)
    ∗ (cred (tallyAt (barCell c) () 3) ∗ atPos ER (barCell c) 0 ∅ 0)
    ∗ ownPart m c 0
    ∗ bigSep Finset.univ (sendPre (F := F) c) ∗ bigSep Finset.univ (recvPart (F := F) c 0)
    ∗ bigSep (bits (held c 0)) (unit m c (G m)))
/-- with that. -/
def Pre (c : Dev nD) : sProp 𝕄 :=
  iprop((∃ W, owes (c : Thread nD τ) (owedSig c 0) W) ∗ Hold m c)

omit [FloatOps F] in
/-- With what the barrier brings, the sender's sides are complete. -/
theorem sendPart_pre (c : Dev nD) :
    iprop(bigSep Finset.univ (sendPre (F := F) c) ∗ bigSep Finset.univ fun x : Xf => iprop(∃ f, dstPts m (tgt c x) x f))
      ⊢ bigSep Finset.univ (sendPart m c 0) := by
  refine (Entails.of_eq (bigSep_sep _ _ _).symm).trans ?_
  refine bigSep_mono fun x _ => ?_
  rw [show sendPart m c 0 x = iprop(dutyTok ER (sCell c x) 0 0 ∗ dutyTok ER (rCell (tgt c x) x) 0 0 ∗ (∃ f, dstPts m (tgt c x) x f) ∗ atPos ER (sCell c x) 0 ∅ 0) from
    if_pos (Nat.zero_le _)]
  unfold sendPre
  show (iprop((dutyTok ER (sCell c x) 0 0 ∗ dutyTok ER (rCell (tgt c x) x) 0 0 ∗ atPos ER (sCell c x) 0 ∅ 0) ∗ ∃ f, dstPts m (tgt c x) x f) : sProp 𝕄)
    ⊢ iprop(dutyTok ER (sCell c x) 0 0 ∗ dutyTok ER (rCell (tgt c x) x) 0 0 ∗ (∃ f, dstPts m (tgt c x) x f) ∗ atPos ER (sCell c x) 0 ∅ 0)
  iintro ⟨⟨H1, H2, H3⟩, H4⟩
  isplitl [H1]; · iexact H1
  isplitl [H2]; · iexact H2
  isplitl [H4]; · iexact H4
  iexact H3

/-- One signal. -/
theorem step_signal (K : Dev nD × CI → ℕ) (c : Dev nD) (k : Fin 3) {d : Dev nD} (hd : d.val = (nbr c k).val) {a : ℤ} (ha : a = (1 : ℕ))
    (O : CellTallies nD τ sig Unit) {W : Waits sig Unit} {α : Type} {Q : α → sProp 𝕄}
    {p : PUnit → Prog (TpuEff nD τ sig (Elt F) Λ₀ .tc) α} :
    iprop(ctx m K ∗ owes (c : Thread nD τ) (O + tallyAt (barCell (nbr c k)) () 1) W ∗ sigPart m c k)
      ⊢ iprop((owes (c : Thread nD τ) O W -∗ Wp c (p ⟨⟩) Q) -∗ Wp c (.op (.semSignal (d, .tc) barS a) p) Q) := by
  obtain rfl := Fin.ext hd
  subst ha
  unfold sigPart
  iintro ⟨#Hctx, HO, Ht, Hg⟩ Hk
  ihave #Hi := (inv_of m K (nbr c k, none)) $$ Hctx
  ihave #Ha := (at_of m K (nbr c k, none)) $$ Hctx
  iapply (Rounds.wp_signal 𝒱₀ ER (gathRd m) (c : Thread nD τ) none (dst := (nbr c k : Thread nD τ)) (sem := barS) (κ := K (nbr c k, none)) (r := 0)
      (d := opp k) (k' := 1) (by rw [show (gathRd m).duties ((nbr c k : Thread nD τ), .reg barS) 0 = Finset.univ from duties_bar m (nbr c k)]; exact Finset.mem_univ _) rfl () O rfl) $$ [HO Ht Hg]
  · isplitr; · iexact Hi
    isplitl [HO]; · iexact HO
    isplitl [Ht]; · iexact Ht
    isplitl [Hg]
    · rw [show (gathRd m).payload (barCell (nbr c k)) 0 (opp k) = barPay m (nbr c k) (opp k) from rfl, giveAway_eq]; iexact Hg
    iexact Ha
  iexact Hk

/-- The barrier: signal every partner, wait for all of them. -/
theorem part3 (c : Dev nD) (v2 v29 v43 v70 : BitVec 32) :
    Runs m c (Pre m c) (Mid m c 0 0)
      (k0_part3 xM (Memref.isWhole_whole _) oM (Memref.isWhole_whole _) cc0_scratch0 cc0_scratch1 cc0_scratch2 cc0_scratch3 cc0_scratch4 cc0_scratch5 cc0_scratch6 c v2 v29 v43 v70 (SemArray.scalar (sig.barrier 0 rfl))) (fun _ => True) := by
  simp only [k0_part3_eq_skeleton]; unfold k0_part3_skel
  simp only [semSignalWord, semWaitWord, Prog.lift, Prog.bind_op, Prog.bind_ret, Prog.pure_eq_ret]
  intro K Q
  unfold Pre Hold
  iintro ⟨#Hctx, ⟨%W, HO⟩, ⟨H0, H1, H2⟩, ⟨Hc, Hat⟩, Hown, Hs, Hr, Hu⟩ Hk
  rw [show owedSig c 0 = ((owedAt c 0 + tallyAt (barCell (nbr c 2)) () 1) + tallyAt (barCell (nbr c 1)) () 1) + tallyAt (barCell (nbr c 0)) () 1 from by
    simp only [owedSig]]
  iapply (step_signal m K c 0 (dev_sig c).1 (by decide) _) $$ [HO H0]
  · isplitr; · iexact Hctx
    isplitl [HO]; · iexact HO
    iexact H0
  iintro HO
  iapply (step_signal m K c 1 (dev_sig c).2.1 (by decide) _) $$ [HO H1]
  · isplitr; · iexact Hctx
    isplitl [HO]; · iexact HO
    iexact H1
  iintro HO
  iapply (step_signal m K c 2 (dev_sig c).2.2 (by decide) _) $$ [HO H2]
  · isplitr; · iexact Hctx
    isplitl [HO]; · iexact HO
    iexact H2
  iintro HO
  ihave #Hi := (inv_of m K (c, none)) $$ Hctx
  ihave #Hlev := (lev_of m K) $$ Hctx
  iapply (Rounds.wp_wait_rest_token 𝒱₀ ER (gathRd m) (c : Thread nD τ) none (κ := K (c, none))
      (wpE_semWait_eq 𝒱₀ (c : Thread nD τ) none Set.univ) (Set.mem_univ _) () (O := owedAt c 0) (W := W) (R := 0) (m := 0) (T := ∅)
      (by rw [expect_bar]; decide)) $$ [Hc HO Hat]
  · isplitr; · iexact Hi
    isplitl [Hc]; · iexact Hc
    isplitl [HO]; · iexact HO
    isplitr
    · iapply (mayWait c (.reg barS) 0 fun y _ => lvl_pos y)
      iexact Hlev
    iexact Hat
  iintro ⟨HO, Hat, -, Hp⟩
  ihave Hp := (Entails.of_eq (rest_bar m c)) $$ Hp
  rw [wp_ret]
  imodintro
  iapply Hk $$ %⟨⟩ []
  · ipureintro; trivial
  unfold Mid St
  isplitl [Hat Hown]
  · isplitl [Hat]; · iexact Hat
    iexact Hown
  isplitl [HO]; · iexists _; iexact HO
  isplitl [Hs Hp]
  · iapply (sendPart_pre m c)
    isplitl [Hs]; · iexact Hs
    iexact Hp
  isplitl [Hr]; · iexact Hr
  iexact Hu

end Cert.Gather
-- ==== Proof.Parts.lean ====
/-
The parts of the body, each from what a device holds before it to what it holds after it.
-/
module

public import proofs.«01_k».proof.Proof.Barrier

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

/-- The own segments go out: the first, -/
theorem part11 (v29 v43 v70 w w' : BitVec 32) :
    Runs m c (Mid m c 0 0) (Mid m c 0 3) (k0_part11 xM (Memref.isWhole_whole _) oM (Memref.isWhole_whole _) cc0_scratch0 cc0_scratch1 cc0_scratch2 cc0_scratch3 cc0_scratch4 cc0_scratch5 cc0_scratch6 c v29 v43 v70 w w') (fun _ => True) := by
  simp only [k0_part11_eq_skeleton]; unfold k0_part11_skel
  simp only [Prog.lift, Prog.bind_op, Prog.bind_ret, Prog.pure_eq_ret]
  refine .send (x := (0, 0)) rfl (dev_own c).1.1 (carries_own m c 0 0 rfl (off_own c 0 0)) rfl rfl ?_
  refine .send (x := (1, 0)) rfl (dev_own c).1.2.1 (carries_own m c 1 0 rfl (off_own c 1 0)) rfl rfl ?_
  refine .send (x := (2, 0)) rfl (dev_own c).1.2.2 (carries_own m c 2 0 rfl (off_own c 2 0)) rfl rfl ?_
  exact .ret trivial
/-- the second, -/
theorem part12 (v29 v43 v70 w : BitVec 32) :
    Runs m c (Mid m c 0 3) (Mid m c 0 6) (k0_part12 xM (Memref.isWhole_whole _) oM (Memref.isWhole_whole _) cc0_scratch0 cc0_scratch1 cc0_scratch2 cc0_scratch3 cc0_scratch4 cc0_scratch5 cc0_scratch6 c v29 v43 v70 w) (fun _ => True) := by
  simp only [k0_part12_eq_skeleton]; unfold k0_part12_skel
  simp only [Prog.lift, Prog.bind_op, Prog.bind_ret, Prog.pure_eq_ret]
  refine .send (x := (0, 1)) rfl (dev_own c).2.1.1 (carries_own m c 0 1 rfl (off_own c 0 1)) rfl rfl ?_
  refine .send (x := (1, 1)) rfl (dev_own c).2.1.2.1 (carries_own m c 1 1 rfl (off_own c 1 1)) rfl rfl ?_
  refine .send (x := (2, 1)) rfl (dev_own c).2.1.2.2 (carries_own m c 2 1 rfl (off_own c 2 1)) rfl rfl ?_
  exact .ret trivial
/-- the third, -/
theorem part13 (v29 v43 v70 : BitVec 32) :
    Runs m c (Mid m c 0 6) (Mid m c 0 9) (k0_part13 xM (Memref.isWhole_whole _) oM (Memref.isWhole_whole _) cc0_scratch0 cc0_scratch1 cc0_scratch2 cc0_scratch3 cc0_scratch4 cc0_scratch5 cc0_scratch6 c v29 v43 v70) (fun _ => True) := by
  simp only [k0_part13_eq_skeleton]; unfold k0_part13_skel
  simp only [Prog.lift, Prog.bind_op, Prog.bind_ret, Prog.pure_eq_ret]
  refine .send (x := (0, 2)) rfl (dev_own c).2.2.1.1 (carries_own m c 0 2 rfl (off_own c 0 2)) rfl rfl ?_
  refine .send (x := (1, 2)) rfl (dev_own c).2.2.1.2.1 (carries_own m c 1 2 rfl (off_own c 1 2)) rfl rfl ?_
  refine .send (x := (2, 2)) rfl (dev_own c).2.2.1.2.2 (carries_own m c 2 2 rfl (off_own c 2 2)) rfl rfl ?_
  exact .ret trivial
/-- the last; the local copy begins and the first segment of the one neighbour arrives. -/
theorem part14 (v2 v29 v43 v70 : BitVec 32) :
    Runs m c (Mid m c 0 9) (Mid m c 1 13) (k0_part14 xM (Memref.isWhole_whole _) oM (Memref.isWhole_whole _) cc0_scratch0 cc0_scratch1 cc0_scratch2 cc0_scratch3 cc0_scratch4 cc0_scratch5 cc0_scratch6 c v2 v29 v43 v70) (fun _ => True) := by
  simp only [k0_part14_eq_skeleton]; unfold k0_part14_skel
  simp only [Prog.lift, Prog.bind_op, Prog.bind_ret, Prog.pure_eq_ret]
  refine .send (x := (0, 3)) rfl (dev_own c).2.2.2.1 (carries_own m c 0 3 rfl (off_own c 0 3)) rfl rfl ?_
  refine .send (x := (1, 3)) rfl (dev_own c).2.2.2.2.1 (carries_own m c 1 3 rfl (off_own c 1 3)) rfl rfl ?_
  refine .send (x := (2, 3)) rfl (dev_own c).2.2.2.2.2 (carries_own m c 2 3 rfl (off_own c 2 3)) rfl rfl ?_
  refine .copy (k0_off2_eq c) rfl ?_
  refine .recv (x := (0, 0)) rfl rfl rfl ?_
  exact .ret trivial
/-- Segments of both neighbours arrive and are forwarded, the first, -/
theorem part15 (v29 v43 : BitVec 32) :
    Runs m c (Mid m c 1 13) (Mid m c 1 16) (k0_part15 xM (Memref.isWhole_whole _) oM (Memref.isWhole_whole _) cc0_scratch0 cc0_scratch1 cc0_scratch2 cc0_scratch3 cc0_scratch4 cc0_scratch5 cc0_scratch6 c v29 v43) (fun _ => True) := by
  simp only [k0_part15_eq_skeleton]; unfold k0_part15_skel
  simp only [Prog.lift, Prog.bind_op, Prog.bind_ret, Prog.pure_eq_ret]
  refine .send (x := (0, 4)) rfl (dev_fwd c).1.1 (carries_fwd m c _ (by decide) rfl (off_fwd c 0) (off_fwd c 0)) rfl rfl ?_
  refine .recv (x := (1, 0)) rfl rfl rfl ?_
  refine .send (x := (1, 4)) rfl (dev_fwd c).1.2 (carries_fwd m c _ (by decide) rfl (off_bwd c 0) (off_bwd c 0)) rfl rfl ?_
  exact .ret trivial
/-- the second, -/
theorem part16 (v29 v43 : BitVec 32) :
    Runs m c (Mid m c 1 16) (Mid m c 1 20) (k0_part16 xM (Memref.isWhole_whole _) oM (Memref.isWhole_whole _) cc0_scratch0 cc0_scratch1 cc0_scratch2 cc0_scratch3 cc0_scratch4 cc0_scratch5 cc0_scratch6 c v29 v43) (fun _ => True) := by
  simp only [k0_part16_eq_skeleton]; unfold k0_part16_skel
  simp only [Prog.lift, Prog.bind_op, Prog.bind_ret, Prog.pure_eq_ret]
  refine .recv (x := (0, 1)) rfl rfl rfl ?_
  refine .send (x := (0, 5)) rfl (dev_fwd c).2.1.1 (carries_fwd m c _ (by decide) rfl (off_fwd c 1) (off_fwd c 1)) rfl rfl ?_
  refine .recv (x := (1, 1)) rfl rfl rfl ?_
  refine .send (x := (1, 5)) rfl (dev_fwd c).2.1.2 (carries_fwd m c _ (by decide) rfl (off_bwd c 1) (off_bwd c 1)) rfl rfl ?_
  exact .ret trivial
/-- the third, -/
theorem part17 (v29 v43 w : BitVec 32) :
    Runs m c (Mid m c 1 20) (Mid m c 1 24) (k0_part17 xM (Memref.isWhole_whole _) oM (Memref.isWhole_whole _) cc0_scratch0 cc0_scratch1 cc0_scratch2 cc0_scratch3 cc0_scratch4 cc0_scratch5 cc0_scratch6 c v29 v43 w) (fun _ => True) := by
  simp only [k0_part17_eq_skeleton]; unfold k0_part17_skel
  simp only [Prog.lift, Prog.bind_op, Prog.bind_ret, Prog.pure_eq_ret]
  refine .recv (x := (0, 2)) rfl rfl rfl ?_
  refine .send (x := (0, 6)) rfl (dev_fwd c).2.2.1.1 (carries_fwd m c _ (by decide) rfl (off_fwd c 2) (off_fwd c 2)) rfl rfl ?_
  refine .recv (x := (1, 2)) rfl rfl rfl ?_
  refine .send (x := (1, 6)) rfl (dev_fwd c).2.2.1.2 (carries_fwd m c _ (by decide) rfl (off_bwd c 2) (off_bwd c 2)) rfl rfl ?_
  exact .ret trivial
/-- the last, -/
theorem part18 (v29 v43 : BitVec 32) :
    Runs m c (Mid m c 1 24) (Mid m c 1 27) (k0_part18 xM (Memref.isWhole_whole _) oM (Memref.isWhole_whole _) cc0_scratch0 cc0_scratch1 cc0_scratch2 cc0_scratch3 cc0_scratch4 cc0_scratch5 cc0_scratch6 c v29 v43) (fun _ => True) := by
  simp only [k0_part18_eq_skeleton]; unfold k0_part18_skel
  simp only [Prog.lift, Prog.bind_op, Prog.bind_ret, Prog.pure_eq_ret]
  refine .recv (x := (0, 3)) rfl rfl rfl ?_
  refine .send (x := (0, 7)) rfl (dev_fwd c).2.2.2.1 (carries_fwd m c _ (by decide) rfl (off_fwd c 3) (off_fwd c 3)) rfl rfl ?_
  refine .recv (x := (1, 3)) rfl rfl rfl ?_
  exact .ret trivial
/-- and a third of the farthest block goes out. Twice forwarded segments begin to arrive -/
theorem part19 (v29 v43 v70 : BitVec 32) :
    Runs m c (Mid m c 1 27) (Mid m c 1 31) (k0_part19 xM (Memref.isWhole_whole _) oM (Memref.isWhole_whole _) cc0_scratch0 cc0_scratch1 cc0_scratch2 cc0_scratch3 cc0_scratch4 cc0_scratch5 cc0_scratch6 c v29 v43 v70) (fun _ => True) := by
  simp only [k0_part19_eq_skeleton]; unfold k0_part19_skel
  simp only [Prog.lift, Prog.bind_op, Prog.bind_ret, Prog.pure_eq_ret]
  refine .send (x := (1, 7)) rfl (dev_fwd c).2.2.2.2 (carries_fwd m c _ (by decide) rfl (off_bwd c 3) (off_bwd c 3)) rfl rfl ?_
  refine .send (x := (2, 8)) rfl (dev_rest c).1 (carries_fwd m c _ (by decide) rfl (off_third c).2.2 (off_third c).2.2) rfl rfl ?_
  refine .recv (x := (0, 4)) rfl rfl rfl ?_
  refine .recv (x := (1, 4)) rfl rfl rfl ?_
  exact .ret trivial
/-- and go to the third partner, -/
theorem part20 (v29 v43 v70 w w' : BitVec 32) :
    Runs m c (Mid m c 1 31) (Mid m c 1 35) (k0_part20 xM (Memref.isWhole_whole _) oM (Memref.isWhole_whole _) cc0_scratch0 cc0_scratch1 cc0_scratch2 cc0_scratch3 cc0_scratch4 cc0_scratch5 cc0_scratch6 c v29 v43 v70 w w') (fun _ => True) := by
  simp only [k0_part20_eq_skeleton]; unfold k0_part20_skel
  simp only [Prog.lift, Prog.bind_op, Prog.bind_ret, Prog.pure_eq_ret]
  refine .send (x := (2, 4)) rfl (dev_rest c).2.1 (carries_fwd m c _ (by decide) rfl (off_par c 0) (off_par c 0)) rfl rfl ?_
  refine .recv (x := (0, 5)) rfl rfl rfl ?_
  refine .recv (x := (1, 5)) rfl rfl rfl ?_
  refine .send (x := (2, 5)) rfl (dev_rest c).2.2.1 (carries_fwd m c _ (by decide) rfl (off_par c 1) (off_par c 1)) rfl rfl ?_
  exact .ret trivial
/-- as they come, -/
theorem part21 (v29 v43 v70 : BitVec 32) :
    Runs m c (Mid m c 1 35) (Mid m c 1 39) (k0_part21 xM (Memref.isWhole_whole _) oM (Memref.isWhole_whole _) cc0_scratch0 cc0_scratch1 cc0_scratch2 cc0_scratch3 cc0_scratch4 cc0_scratch5 cc0_scratch6 c v29 v43 v70) (fun _ => True) := by
  simp only [k0_part21_eq_skeleton]; unfold k0_part21_skel
  simp only [Prog.lift, Prog.bind_op, Prog.bind_ret, Prog.pure_eq_ret]
  refine .recv (x := (0, 6)) rfl rfl rfl ?_
  refine .recv (x := (1, 6)) rfl rfl rfl ?_
  refine .send (x := (2, 6)) rfl (dev_rest c).2.2.2.1 (carries_fwd m c _ (by decide) rfl (off_par c 2) (off_par c 2)) rfl rfl ?_
  refine .recv (x := (0, 7)) rfl rfl rfl ?_
  exact .ret trivial
/-- to the last. -/
theorem part22 (v43 v70 : BitVec 32) :
    Runs m c (Mid m c 1 39) (Mid m c 1 42) (k0_part22 xM (Memref.isWhole_whole _) oM (Memref.isWhole_whole _) cc0_scratch0 cc0_scratch1 cc0_scratch2 cc0_scratch3 cc0_scratch4 cc0_scratch5 cc0_scratch6 c v43 v70) (fun _ => True) := by
  simp only [k0_part22_eq_skeleton]; unfold k0_part22_skel
  simp only [Prog.lift, Prog.bind_op, Prog.bind_ret, Prog.pure_eq_ret]
  refine .recv (x := (1, 7)) rfl rfl rfl ?_
  refine .send (x := (2, 7)) rfl (dev_rest c).2.2.2.2.1 (carries_fwd m c _ (by decide) rfl (off_par c 3) (off_par c 3)) rfl rfl ?_
  refine .recv (x := (2, 0)) rfl rfl rfl ?_
  exact .ret trivial
/-- The third partner's segments arrive; -/
theorem part23 (v70 : BitVec 32) :
    Runs m c (Mid m c 1 42) (Mid m c 1 46) (k0_part23 xM (Memref.isWhole_whole _) oM (Memref.isWhole_whole _) cc0_scratch0 cc0_scratch1 cc0_scratch2 cc0_scratch3 cc0_scratch4 cc0_scratch5 cc0_scratch6 c v70) (fun _ => True) := by
  simp only [k0_part23_eq_skeleton]; unfold k0_part23_skel
  simp only [Prog.lift, Prog.bind_op, Prog.bind_ret, Prog.pure_eq_ret]
  refine .recv (x := (2, 1)) rfl rfl rfl ?_
  refine .recv (x := (2, 2)) rfl rfl rfl ?_
  refine .recv (x := (2, 3)) rfl rfl rfl ?_
  refine .recv (x := (2, 4)) rfl rfl rfl ?_
  exact .ret trivial
/-- two of the farthest block's thirds go out; -/
theorem part24 (v29 v43 v70 : BitVec 32) :
    Runs m c (Mid m c 1 46) (Mid m c 1 50) (k0_part24 xM (Memref.isWhole_whole _) oM (Memref.isWhole_whole _) cc0_scratch0 cc0_scratch1 cc0_scratch2 cc0_scratch3 cc0_scratch4 cc0_scratch5 cc0_scratch6 c v29 v43 v70) (fun _ => True) := by
  simp only [k0_part24_eq_skeleton]; unfold k0_part24_skel
  simp only [Prog.lift, Prog.bind_op, Prog.bind_ret, Prog.pure_eq_ret]
  refine .recv (x := (2, 5)) rfl rfl rfl ?_
  refine .send (x := (0, 8)) rfl (dev_rest c).2.2.2.2.2.1 (carries_fwd m c _ (by decide) rfl (off_third c).1 (off_third c).1) rfl rfl ?_
  refine .send (x := (1, 8)) rfl (dev_rest c).2.2.2.2.2.2 (carries_fwd m c _ (by decide) rfl (off_third c).2.1 (off_third c).2.1) rfl rfl ?_
  refine .recv (x := (2, 6)) rfl rfl rfl ?_
  exact .ret trivial
/-- the last arrivals; the local copy is over. -/
theorem part25 (v29 v43 v70 w : BitVec 32) :
    Runs m c (Mid m c 1 50) (Mid m c 2 54) (k0_part25 xM (Memref.isWhole_whole _) oM (Memref.isWhole_whole _) cc0_scratch0 cc0_scratch1 cc0_scratch2 cc0_scratch3 cc0_scratch4 cc0_scratch5 cc0_scratch6 c v29 v43 v70 w) (fun _ => True) := by
  simp only [k0_part25_eq_skeleton]; unfold k0_part25_skel
  simp only [Prog.lift, Prog.bind_op, Prog.bind_ret, Prog.pure_eq_ret]
  refine .recv (x := (2, 7)) rfl rfl rfl ?_
  refine .recv (x := (0, 8)) rfl rfl rfl ?_
  refine .recv (x := (1, 8)) rfl rfl rfl ?_
  refine .recv (x := (2, 8)) rfl rfl rfl ?_
  refine .copied rfl ?_
  exact .ret trivial
/-- The sendings are over: the own segments', -/
theorem part26 :
    Runs m c (Mid m c 2 54) (Mid m c 2 58) (k0_part26 xM (Memref.isWhole_whole _) oM (Memref.isWhole_whole _) cc0_scratch0 cc0_scratch1 cc0_scratch2 cc0_scratch3 cc0_scratch4 cc0_scratch5 cc0_scratch6 c) (fun _ => True) := by
  simp only [k0_part26_eq_skeleton]; unfold k0_part26_skel
  simp only [Prog.lift, Prog.bind_op, Prog.bind_ret, Prog.pure_eq_ret]
  refine .done (x := (0, 0)) rfl rfl rfl ?_
  refine .done (x := (0, 1)) rfl rfl rfl ?_
  refine .done (x := (0, 2)) rfl rfl rfl ?_
  refine .done (x := (0, 3)) rfl rfl rfl ?_
  exact .ret trivial
/-- further ones', -/
theorem part27 :
    Runs m c (Mid m c 2 58) (Mid m c 2 63) (k0_part27 xM (Memref.isWhole_whole _) oM (Memref.isWhole_whole _) cc0_scratch0 cc0_scratch1 cc0_scratch2 cc0_scratch3 cc0_scratch4 cc0_scratch5 cc0_scratch6 c) (fun _ => True) := by
  simp only [k0_part27_eq_skeleton]; unfold k0_part27_skel
  simp only [Prog.lift, Prog.bind_op, Prog.bind_ret, Prog.pure_eq_ret]
  refine .done (x := (1, 0)) rfl rfl rfl ?_
  refine .done (x := (1, 1)) rfl rfl rfl ?_
  refine .done (x := (1, 2)) rfl rfl rfl ?_
  refine .done (x := (1, 3)) rfl rfl rfl ?_
  refine .done (x := (2, 0)) rfl rfl rfl ?_
  exact .ret trivial
/-- those of what was forwarded, -/
theorem part28 :
    Runs m c (Mid m c 2 63) (Mid m c 2 68) (k0_part28 xM (Memref.isWhole_whole _) oM (Memref.isWhole_whole _) cc0_scratch0 cc0_scratch1 cc0_scratch2 cc0_scratch3 cc0_scratch4 cc0_scratch5 cc0_scratch6 c) (fun _ => True) := by
  simp only [k0_part28_eq_skeleton]; unfold k0_part28_skel
  simp only [Prog.lift, Prog.bind_op, Prog.bind_ret, Prog.pure_eq_ret]
  refine .done (x := (2, 1)) rfl rfl rfl ?_
  refine .done (x := (2, 2)) rfl rfl rfl ?_
  refine .done (x := (2, 3)) rfl rfl rfl ?_
  refine .done (x := (0, 4)) rfl rfl rfl ?_
  refine .done (x := (0, 5)) rfl rfl rfl ?_
  exact .ret trivial
/-- further ones', -/
theorem part29 :
    Runs m c (Mid m c 2 68) (Mid m c 2 73) (k0_part29 xM (Memref.isWhole_whole _) oM (Memref.isWhole_whole _) cc0_scratch0 cc0_scratch1 cc0_scratch2 cc0_scratch3 cc0_scratch4 cc0_scratch5 cc0_scratch6 c) (fun _ => True) := by
  simp only [k0_part29_eq_skeleton]; unfold k0_part29_skel
  simp only [Prog.lift, Prog.bind_op, Prog.bind_ret, Prog.pure_eq_ret]
  refine .done (x := (0, 6)) rfl rfl rfl ?_
  refine .done (x := (0, 7)) rfl rfl rfl ?_
  refine .done (x := (1, 4)) rfl rfl rfl ?_
  refine .done (x := (1, 5)) rfl rfl rfl ?_
  refine .done (x := (1, 6)) rfl rfl rfl ?_
  exact .ret trivial
/-- those to the third partner. -/
theorem part30 :
    Runs m c (Mid m c 2 73) (Mid m c 2 78) (k0_part30 xM (Memref.isWhole_whole _) oM (Memref.isWhole_whole _) cc0_scratch0 cc0_scratch1 cc0_scratch2 cc0_scratch3 cc0_scratch4 cc0_scratch5 cc0_scratch6 c) (fun _ => True) := by
  simp only [k0_part30_eq_skeleton]; unfold k0_part30_skel
  simp only [Prog.lift, Prog.bind_op, Prog.bind_ret, Prog.pure_eq_ret]
  refine .done (x := (1, 7)) rfl rfl rfl ?_
  refine .done (x := (2, 4)) rfl rfl rfl ?_
  refine .done (x := (2, 5)) rfl rfl rfl ?_
  refine .done (x := (2, 6)) rfl rfl rfl ?_
  refine .done (x := (2, 7)) rfl rfl rfl ?_
  exact .ret trivial

end Cert.Gather
-- ==== Proof.Whole.lean ====
/-
The whole body, its parts one after another.
-/
module

public import proofs.«01_k».proof.Proof.Parts

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (c : Dev nD)

section
variable {m} {c}

/-- A part that only computes words. -/
theorem quiet {P : sProp (MT nD τ sig Unit (Elt F) ℕ UU ℕ)} {α : Type} {p : Prog (TpuEff nD τ sig (Elt F) Λ₀ .tc) α} (h : ∃ r, p = Prog.ret r) :
    Runs m c P P p (fun _ => True) := by
  obtain ⟨r, rfl⟩ := h
  exact .ret trivial

end

/-- The first part asks for the device's number. -/
theorem part1 (P : sProp 𝕄) :
    Runs m c P P (k0_part1 xM (Memref.isWhole_whole _) oM (Memref.isWhole_whole _) cc0_scratch0 cc0_scratch1 cc0_scratch2 cc0_scratch3 cc0_scratch4 cc0_scratch5 cc0_scratch6) (fun r => r.1 = c) := by
  simp only [k0_part1_eq_skeleton]; unfold k0_part1_skel
  simp only [Prog.lift, Prog.bind_op, Prog.bind_ret, Prog.pure_eq_ret]
  exact .device (.ret rfl)

/-- The second part names the barrier. -/
theorem part2 (P : sProp 𝕄) (v15 v32 v33 : BitVec 32) (v34 : BitVec 1) :
    Runs m c P P (k0_part2 xM (Memref.isWhole_whole _) oM (Memref.isWhole_whole _) cc0_scratch0 cc0_scratch1 cc0_scratch2 cc0_scratch3 cc0_scratch4 cc0_scratch5 cc0_scratch6 v15 v32 v33 v34)
      (fun r => r.2.2.2 = SemArray.scalar (sig.barrier 0 rfl)) := by
  simp only [k0_part2_eq_skeleton]; unfold k0_part2_skel
  simp only [Prog.pure_eq_ret]
  exact .ret rfl

/-- All parts but the last wait. -/
theorem part31 :
    Runs m c (Pre m c) (Mid m c 2 80) (k0_part31 xM (Memref.isWhole_whole _) oM (Memref.isWhole_whole _) cc0_scratch0 cc0_scratch1 cc0_scratch2 cc0_scratch3 cc0_scratch4 cc0_scratch5 cc0_scratch6) (fun r => r = c) := by
  simp only [k0_part31_eq_skeleton]; unfold k0_part31_skel
  refine .bind (part1 m c _) fun r hr => ?_
  obtain ⟨d0, v2, v15, v29, v32, v33, v34⟩ := r
  obtain rfl : d0 = c := hr
  refine .bind (part2 m d0 _ _ _ _ _) fun r hr => ?_
  obtain ⟨v43, v55, v70, v71⟩ := r
  obtain rfl : v71 = SemArray.scalar (sig.barrier 0 rfl) := hr
  refine .bind (part3 m d0 _ _ _ _) fun _ _ => ?_
  refine .bind (quiet ⟨_, rfl⟩) fun _ _ => ?_
  refine .bind (quiet ⟨_, rfl⟩) fun _ _ => ?_
  refine .bind (quiet ⟨_, rfl⟩) fun _ _ => ?_
  refine .bind (quiet ⟨_, rfl⟩) fun _ _ => ?_
  refine .bind (quiet ⟨_, rfl⟩) fun _ _ => ?_
  refine .bind (quiet ⟨_, rfl⟩) fun _ _ => ?_
  refine .bind (quiet ⟨_, rfl⟩) fun _ _ => ?_
  refine .bind (part11 m d0 _ _ _ _ _) fun _ _ => ?_
  refine .bind (part12 m d0 _ _ _ _) fun _ _ => ?_
  refine .bind (part13 m d0 _ _ _) fun _ _ => ?_
  refine .bind (part14 m d0 _ _ _ _) fun _ _ => ?_
  refine .bind (part15 m d0 _ _) fun _ _ => ?_
  refine .bind (part16 m d0 _ _) fun _ _ => ?_
  refine .bind (part17 m d0 _ _ _) fun _ _ => ?_
  refine .bind (part18 m d0 _ _) fun _ _ => ?_
  refine .bind (part19 m d0 _ _ _) fun _ _ => ?_
  refine .bind (part20 m d0 _ _ _ _ _) fun _ _ => ?_
  refine .bind (part21 m d0 _ _ _) fun _ _ => ?_
  refine .bind (part22 m d0 _ _) fun _ _ => ?_
  refine .bind (part23 m d0 _) fun _ _ => ?_
  refine .bind (part24 m d0 _ _ _) fun _ _ => ?_
  refine .bind (part25 m d0 _ _ _ _) fun _ _ => ?_
  refine .bind (part26 m d0) fun _ _ => ?_
  refine .bind (part27 m d0) fun _ _ => ?_
  refine .bind (part28 m d0) fun _ _ => ?_
  refine .bind (part29 m d0) fun _ _ => ?_
  refine .bind (part30 m d0) fun _ _ => ?_
  simp only [Prog.lift, Prog.bind_op, Prog.bind_ret, Prog.pure_eq_ret]
  refine .done (x := (0, 8)) rfl rfl rfl ?_
  refine .done (x := (1, 8)) rfl rfl rfl ?_
  exact .ret rfl

/-- The body leads from the start to having done all 81 operations. -/
theorem body_runs :
    Runs m c (Pre m c) (Mid m c 2 81) (cc0_body xM (Memref.isWhole_whole _) oM (Memref.isWhole_whole _) cc0_scratch0 cc0_scratch1 cc0_scratch2 cc0_scratch3 cc0_scratch4 cc0_scratch5 cc0_scratch6) (fun _ => True) := by
  simp only [cc0_body_eq_skeleton]; unfold cc0_body_skel
  refine .bind (part31 m c) fun d0 hd => ?_
  subst hd
  simp only [Prog.lift, Prog.bind_op, Prog.bind_ret, Prog.pure_eq_ret]
  refine .done (x := (2, 8)) rfl rfl rfl ?_
  exact .ret trivial

end Cert.Gather
-- ==== Proof.Deal.lean ====
/-
What the launch deals: the rights to credit cells to those who credit them, the credits of what is owed, the arrays.
-/
module

public import proofs.«01_k».proof.Proof.Barrier

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## A device's cells -/

/-- The senders' cells of a device, -/
def sEmb : Xf ↪ Fin 73 := ⟨sIx, fun x y h => by have e := congrArg use h; rw [use_s, use_s] at e; injection e⟩
/-- the receivers'. -/
def rEmb : Xf ↪ Fin 73 := ⟨rIx, fun x y h => by have e := congrArg use h; rw [use_r, use_r] at e; injection e⟩
/-- All used cells. -/
def busy : Finset (Fin 73) := insert 72 (Finset.univ.map sEmb ∪ Finset.univ.map rEmb)

/-- The local copy's cell is no transfer's, -/
theorem own_apart : (72 : Fin 73) ∉ (Finset.univ.map sEmb ∪ Finset.univ.map rEmb) := by decide +kernel
/-- a sender's no receiver's. -/
theorem sr_apart : Disjoint (Finset.univ.map sEmb) (Finset.univ.map rEmb) := by decide +kernel
/-- The other cells have no duty. -/
theorem dut_idle : ∀ q : Fin 73, q ∉ busy → dut (.dma q) = ∅ := by decide +kernel

omit [FloatOps F] in
/-- A device's transfer cells: the senders', the receivers', the local copy's, the unused. -/
theorem cells_split (Φ : Fin 73 → sProp 𝕄) :
    bigSep Finset.univ Φ
      = iprop((Φ 72 ∗ (bigSep Finset.univ fun x : Xf => Φ (sIx x)) ∗ bigSep Finset.univ fun x : Xf => Φ (rIx x)) ∗ bigSep (Finset.univ \ busy) Φ) := by
  have h : (Finset.univ : Finset (Fin 73)) = busy ∪ (Finset.univ \ busy) := (Finset.union_sdiff_of_subset (Finset.subset_univ _)).symm
  conv => lhs; rw [h]
  rw [bigSep_union Finset.disjoint_sdiff, busy, bigSep_insert own_apart, bigSep_union sr_apart, bigSep_map, bigSep_map]
  rfl

omit [FloatOps F] in
/-- With the barrier's cell. -/
theorem cells_all (Φ : CI → sProp 𝕄) :
    bigSep Finset.univ Φ = iprop(Φ none ∗ bigSep Finset.univ fun q : Fin 73 => Φ (some q)) := by
  have h : (Finset.univ : Finset CI) = insert none (Finset.univ.map Function.Embedding.some) := by
    ext i; cases i <;> simp
  rw [h, bigSep_insert (by simp), bigSep_map]
  rfl

omit [FloatOps F] in
/-- Equal things follow from each other. -/
theorem eq_le {P Q : sProp 𝕄} (h : P = Q) : Idealize.SL.BI.Entails P Q := h ▸ Idealize.SL.BI.Entails.refl _

omit [FloatOps F] in
/-- Three things. -/
theorem three (Φ : Fin 3 → sProp 𝕄) : bigSep Finset.univ Φ = iprop(Φ 0 ∗ Φ 1 ∗ Φ 2) :=
  bigSep_univ_eq_bigSepL [0, 1, 2] (by decide) (by decide) Φ

/-! ## The rights to credit -/

/-- The rights minted for a device's own cells. -/
def minted (c : Dev nD) : sProp 𝕄 :=
  bigSep Finset.univ fun i : CI => bigSep Finset.univ fun k : Fin 3 => dutyTok ER (kcell (c, i)) 0 k
/-- Those a device uses: its partners' barriers', its transfers' two ends', the local copy's. -/
def rights (c : Dev nD) : sProp 𝕄 :=
  iprop((bigSep Finset.univ fun k : Fin 3 => dutyTok ER (barCell (nbr c k)) 0 (opp k))
    ∗ dutyTok ER (dCell c 72) 0 0
    ∗ (bigSep Finset.univ fun x : Xf => dutyTok ER (sCell c x) 0 0)
    ∗ bigSep Finset.univ fun x : Xf => dutyTok ER (rCell (tgt c x) x) 0 0)

omit [FloatOps F] in
/-- Of those minted, the used ones. -/
theorem minted_used (c : Dev nD) :
    minted (F := F) c ⊢ iprop((bigSep Finset.univ fun k : Fin 3 => dutyTok ER (barCell c) 0 k)
      ∗ dutyTok ER (dCell c 72) 0 0
      ∗ (bigSep Finset.univ fun x : Xf => dutyTok ER (sCell c x) 0 0)
      ∗ bigSep Finset.univ fun x : Xf => dutyTok ER (rCell c x) 0 0) := by
  unfold minted
  rw [cells_all]
  have h (q : Fin 73) : (bigSep Finset.univ fun k : Fin 3 => (dutyTok ER (kcell (c, some q)) 0 k : sProp 𝕄)) ⊢ dutyTok ER (dCell c q) 0 0 :=
    bigSep_elim (Finset.mem_univ 0)
  refine (sep_mono_right ((bigSep_mono fun q _ => h q).trans (Entails.of_eq (cells_split _)))).trans ?_
  iintro ⟨H, ⟨H1, H2, H3⟩, -⟩
  isplitl [H]; · iexact H
  isplitl [H1]; · iexact H1
  isplitl [H2]; · iexact H2
  iexact H3

/-- A barrier's right from one direction lies with the partner over there. -/
def swap : Dev nD × Fin 3 ≃ Dev nD × Fin 3 where
  toFun p := (nbr p.1 p.2, opp p.2)
  invFun p := (nbr p.1 p.2, opp p.2)
  left_inv p := by show (nbr (nbr p.1 p.2) (opp p.2), opp (opp p.2)) = p; rw [nbr_opp, opp_opp]
  right_inv p := by show (nbr (nbr p.1 p.2) (opp p.2), opp (opp p.2)) = p; rw [nbr_opp, opp_opp]

/-- An arrival's right lies with the sender. -/
def haul : Dev nD × Xf ≃ Dev nD × Xf where
  toFun p := (tgt p.1 p.2, p.2)
  invFun p := (org p.1 p.2, p.2)
  left_inv p := by show (nbr (nbr p.1 p.2.1) (opp p.2.1), p.2) = p; rw [nbr_opp]
  right_inv p := by show (nbr (nbr p.1 (opp p.2.1)) p.2.1, p.2) = p; rw [opp_nbr]

omit [FloatOps F] in
/-- The rights go where they are used. -/
theorem rights_dealt : (bigSep Finset.univ fun c : Dev nD => minted (F := F) c) ⊢ bigSep Finset.univ fun c : Dev nD => rights (F := F) c := by
  refine (bigSep_mono fun c _ => minted_used c).trans ?_
  refine eq_le ?_
  unfold rights
  rw [bigSep_sep', bigSep_sep', bigSep_sep', bigSep_sep', bigSep_sep', bigSep_sep',
    ← bigSep_univ_prod (fun p : Dev nD × Fin 3 => (dutyTok ER (barCell p.1) 0 p.2 : sProp 𝕄)), bigSep_univ_equiv swap,
    bigSep_univ_prod,
    ← bigSep_univ_prod (fun p : Dev nD × Xf => (dutyTok ER (rCell p.1 p.2) 0 0 : sProp 𝕄)), bigSep_univ_equiv haul,
    bigSep_univ_prod]
  rfl

/-! ## The credits -/

/-- Arrivals' cells are the same only for the same device and transfer. -/
theorem rCell_inj {c d : Dev nD} {x y : Xf} : rCell c x = rCell d y ↔ c = d ∧ x = y := by
  refine ⟨fun h => ⟨congrArg (fun g : GSem nD τ sig => g.1.1) h, ?_⟩, fun ⟨h, h'⟩ => by rw [h, h']⟩
  have e : rIx x = rIx y := by
    have e := congrArg (fun g : GSem nD τ sig => g.2) h
    injection e
  exact rEmb.injective e
/-- Barriers' only for the same device. -/
theorem barCell_inj {c d : Dev nD} : barCell c = barCell d ↔ c = d :=
  ⟨fun h => congrArg (fun g : GSem nD τ sig => g.1.1) h, fun h => by rw [h]⟩
/-- No barrier's is an arrival's. -/
theorem bar_ne {c d : Dev nD} {x : Xf} : barCell c ≠ rCell d x := fun h => by
  have e := congrArg (fun g : GSem nD τ sig => g.2) h
  cases e

/-- What a device owes an arrival's cell, -/
theorem owed_r (d c : Dev nD) (x : Xf) : owedSig d 0 (rCell c x) () = if d = org c x then amt x else 0 := by
  have h (y : Xf) : tallyAt (rCell (tgt d y) y) () (amt y) (rCell c x) () = if x = y then (if c = tgt d x then amt x else 0) else 0 := by
    rw [tallyAt_apply]
    by_cases e : x = y
    · subst e; simp only [rCell_inj, and_true, if_true]
    · rw [if_neg (fun h => e (rCell_inj.mp h.1).2), if_neg e]
  simp only [owedSig, Pi.add_apply, Finsupp.add_apply]
  rw [tallyAt_ne_cell bar_ne.symm, tallyAt_ne_cell bar_ne.symm, tallyAt_ne_cell bar_ne.symm]
  simp only [owedAt, Nat.zero_le, Finset.filter_true, Finset.sum_apply, Finsupp.finset_sum_apply, h, Finsupp.zero_apply, Nat.add_zero]
  rw [Finset.sum_ite_eq Finset.univ x, if_pos (Finset.mem_univ _)]
  refine if_congr ⟨fun h => ?_, fun h => ?_⟩ rfl rfl
  · rw [h, tgt, org, nbr_opp]
  · rw [h, tgt, org, opp_nbr]

/-- a barrier's. -/
theorem owed_b (d c : Dev nD) :
    owedSig d 0 (barCell c) () = ((if c = nbr d 2 then 1 else 0) + if c = nbr d 1 then 1 else 0) + if c = nbr d 0 then 1 else 0 := by
  simp only [owedSig, Pi.add_apply, Finsupp.add_apply]
  have h : owedAt d 0 (barCell c) () = 0 := by
    simp only [owedAt, Nat.zero_le, Finset.filter_true, Finset.sum_apply, Finsupp.finset_sum_apply]
    exact Finset.sum_eq_zero fun y _ => by rw [tallyAt_ne_cell bar_ne]; rfl
  rw [h, tallyAt_apply, tallyAt_apply, tallyAt_apply]
  simp only [barCell_inj, and_true, Nat.zero_add]

/-- Three devices signal each. -/
theorem three_signal : ∀ c : Dev nD,
    (∑ d : Dev nD, (((if c = nbr d 2 then 1 else 0) + if c = nbr d 1 then 1 else 0) + if c = nbr d 0 then 1 else 0)) = 3 := by decide

/-- What all devices owe a barrier's cell, -/
theorem launch_b (c : Dev nD) :
    tallyOn (barCell c) (launchCredit (Pipeline.owing fun d => owedSig d 0) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_b d c, three_signal]
/-- an arrival's. -/
theorem launch_r (c : Dev nD) (x : Xf) :
    tallyOn (rCell c x) (launchCredit (Pipeline.owing fun d => owedSig d 0) 0 (rCell c x)) = (tallyAt (rCell c x) () (amt x) : CellTallies nD τ sig Unit) := by
  unfold tallyAt; refine congrArg _ (Finsupp.ext fun u => ?_); cases u
  rw [Pipeline.launchCredit_owing, Finsupp.single_eq_same, Finset.sum_congr rfl fun d _ => owed_r d c x, Finset.sum_ite_eq' Finset.univ (org c x) fun _ => amt x,
    if_pos (Finset.mem_univ _)]

/-- The arrivals' semaphores. -/
def rSem : Xf ↪ SemLoc sig := rEmb.trans ⟨fun q => .dma q, fun a b h => by injection h⟩

omit [FloatOps F] in
/-- A device's credits. -/
theorem creds (c : Dev nD) :
    (Pipeline.launchCred (fun d => owedSig d 0) c : sProp 𝕄)
      ⊢ iprop(cred (tallyAt (barCell c) () 3) ∗ bigSep Finset.univ fun x : Xf => cred (tallyAt (rCell c x) () (amt x))) := by
  unfold Pipeline.launchCred
  refine (bigSep_subset (t := insert (SemLoc.reg barS) (Finset.univ.map rSem)) (Finset.subset_univ _)).trans ?_
  refine eq_le ?_
  rw [bigSep_insert (by simp only [Finset.mem_map, not_exists, not_and]; exact fun x _ h => by cases h), bigSep_map, launch_b]
  refine congrArg _ (bigSep_congr fun x _ => ?_)
  rw [← launch_r c x]; rfl

/-! ## The arrays -/

omit [FloatOps F] in
/-- A device's block and array, as the protocol holds them. -/
theorem arrays_dealt (c : Dev nD) :
    iprop((inLoc c ↦{fullShare} m (inLoc c)) ∗ (outLoc c ↦{fullShare} m (outLoc c)))
      ⊢ iprop(((∃ f, outLoc c ↦[outRows (1024 * c.val) (1024 * c.val + 1024)]{fullShare} f) ∗ (inLoc c ↦{fullShare.left} m (inLoc c)))
        ∗ bigSep (bits (held c 0)) (unit m c (G m)) ∗ (giveAway m c 0 ∗ giveAway m c 1 ∗ giveAway m c 2)) := by
  have hg : (bigSep Finset.univ fun x : Xf => dstPts m c x (m (outLoc c))) ⊢ iprop(giveAway m c 0 ∗ giveAway m c 1 ∗ giveAway m c 2) := by
    rw [← three, bigSep_univ_prod]
    refine bigSep_mono fun k _ => bigSep_mono fun j _ => ?_
    show (dstPts m c (k, j) (m (outLoc c)) : sProp 𝕄) ⊢ iprop(∃ f, dstPts m c (k, j) f)
    iintro H; iexists _; iexact H
  rw [share_split _ _ fullShare, in_units, out_all m, outs_deal, show held c 0 = mask inps from rfl, bits_mask]
  iintro ⟨⟨Hl, Hr⟩, Ho, Hd⟩
  ihave Hd := hg $$ Hd
  isplitl [Ho Hl]
  · isplitl [Ho]; · iexists _; iexact Ho
    iexact Hl
  isplitl [Hr]; · iexact Hr
  iexact Hd

end Cert.Gather
-- ==== Proof.Finish.lean ====
/-
The end of the body: the array is complete and every cell is closed.
-/
module

public import proofs.«01_k».proof.Proof.Deal

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Closing the cells -/

/-- A cell is past its last round. -/
def ended (c : Dev nD) (i : CI) : sProp 𝕄 :=
  iprop(∃ R, ⌜∀ r, R ≤ r → (gathRd (F := F) m).duties (kcell (c, i)) r = ∅⌝ ∗ atPos ER (kcell (c, i)) R ∅ 0)

omit [FloatOps F] in
/-- After its one round it is. -/
theorem ended_one (c : Dev nD) (i : CI) : iprop(atPos ER (kcell (c, i)) 1 ∅ 0) ⊢ ended m c i := by
  unfold ended
  iintro H; iexists 1
  isplitr; · ipureintro; exact duties_later m _
  iexact H

omit [FloatOps F] in
/-- A cell without duties is from the start. -/
theorem ended_idle (c : Dev nD) (q : Fin 73) (h : dut (.dma q) = ∅) : iprop(atPos ER (dCell c q) 0 ∅ 0) ⊢ ended m c (some q) := by
  unfold ended
  iintro H; iexists 0
  isplitr
  · ipureintro
    intro r _
    show (if r = 0 then dut (.dma q) else ∅) = ∅
    rw [h, ite_self]
  iexact H

omit [FloatOps F] in
/-- One cell closes at zero. -/
theorem close_one (K : Dev nD × CI → ℕ) (c : Dev nD) (i : CI) :
    iprop(ctx m K ∗ ended m c i) ⊢ iprop(|={Set.univ}=> semVal (kcell (c, i)) 0) := by
  unfold ended
  iintro ⟨#Hctx, ⟨%R, %h, H⟩⟩
  ihave #Hi := (inv_of m K (c, i)) $$ Hctx
  imod (Rounds.cell_close ER (gathRd m) (Set.mem_univ (K (c, i))) (fun h => h) (R := R) h) $$ [H] with H
  · isplitr; · iexact Hi
    iexact H
  imodintro
  iexact H

omit [FloatOps F] in
/-- Something lasting may be used for each of many. -/
theorem each {ι : Type} [DecidableEq ι] {S : Finset ι} {R : sProp 𝕄} [BI.Persistent R] {Φ Ψ : ι → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- All of a device's cells close. -/
theorem close_all (K : Dev nD × CI → ℕ) (c : Dev nD) :
    iprop(ctx m K ∗ bigSep Finset.univ (ended m c)) ⊢ iprop(|={Set.univ}=> bigSep Finset.univ fun i : CI => semVal (kcell (c, i)) 0) :=
  (each fun i _ => close_one m K c i).trans (bigSep_fupd _ _)

/-! ## The last state -/

/-- The unused cells. -/
def idle (c : Dev nD) : sProp 𝕄 := bigSep (Finset.univ \ busy) fun q => atPos ER (dCell c q) 0 ∅ 0

omit [FloatOps F] in
/-- After the last operation every sending is over, -/
theorem sendPart_end (c : Dev nD) (x : Xf) : sendPart m c 81 x = iprop(atPos ER (sCell c x) 1 ∅ 0) := by
  have h := time_lt (send_mem x)
  have h' := time_lt (done_mem x)
  have hl := ops_length
  unfold sendPart
  rw [if_neg (by omega), if_neg (by omega)]
omit [FloatOps F] in
/-- everything has arrived, -/
theorem recvPart_end (c : Dev nD) (x : Xf) : recvPart (F := F) c 81 x = iprop(atPos ER (rCell c x) 1 ∅ 0) := by
  have h := time_lt (recv_mem x)
  have hl := ops_length
  unfold recvPart
  rw [if_neg (by omega)]

/-- The block's units are none of the gathered array's. -/
theorem units_apart : ∀ c : Dev nD, Disjoint inps.toFinset (outs c).toFinset := by decide +kernel

omit [FloatOps F] in
/-- the block is whole again and the gathered array complete, -/
theorem arrays_end (c : Dev nD) :
    iprop(ownPay m c ∗ bigSep (bits (held c 81)) (unit m c (G m)))
      ⊢ iprop((inLoc c ↦{fullShare} m (inLoc c)) ∗ (outLoc c ↦{fullShare} (G m : Buf (Elt F) (outLoc c)))) := by
  rw [held_end, bits_mask, List.toFinset_append, bigSep_union (units_apart c), ← in_units, out_all m c (G m), share_split _ _ fullShare]
  unfold ownPay
  show (iprop(((outLoc c ↦[outRows (1024 * c.val) (1024 * c.val + 1024)]{fullShare} G m) ∗ (inLoc c ↦{fullShare.left} m (inLoc c)))
      ∗ ((inLoc c ↦{fullShare.right} m (inLoc c)) ∗ bigSep (outs c).toFinset (unit m c (G m)))) : sProp 𝕄)
    ⊢ iprop(((inLoc c ↦{fullShare.left} m (inLoc c)) ∗ (inLoc c ↦{fullShare.right} m (inLoc c)))
      ∗ ((outLoc c ↦[outRows (1024 * c.val) (1024 * c.val + 1024)]{fullShare} G m) ∗ bigSep (outs c).toFinset (unit m c (G m))))
  iintro ⟨⟨H1, H2⟩, H3, H4⟩
  isplitl [H2 H3]
  · isplitl [H2] <;> iassumption
  isplitl [H1] <;> iassumption

omit [FloatOps F] in
/-- and every cell is past its last round. -/
theorem cells_end (c : Dev nD) :
    iprop(atPos ER (barCell c) 1 ∅ 0 ∗ (atPos ER (dCell c 72) 1 ∅ 0 ∗ bigSep Finset.univ (sendPart m c 81) ∗ bigSep Finset.univ (recvPart (F := F) c 81)) ∗ idle c)
      ⊢ bigSep Finset.univ (ended m c) := by
  have hs : bigSep Finset.univ (sendPart m c 81) ⊢ bigSep Finset.univ fun x : Xf => ended m c (some (sIx x)) :=
    bigSep_mono fun x _ => by rw [sendPart_end]; exact ended_one m c (some (sIx x))
  have hr : bigSep Finset.univ (recvPart (F := F) c 81) ⊢ bigSep Finset.univ fun x : Xf => ended m c (some (rIx x)) :=
    bigSep_mono fun x _ => by rw [recvPart_end]; exact ended_one m c (some (rIx x))
  have hi : idle (F := F) c ⊢ bigSep (Finset.univ \ busy) fun q => ended m c (some q) :=
    bigSep_mono fun q hq => ended_idle m c q (dut_idle q (Finset.mem_sdiff.mp hq).2)
  rw [cells_all, cells_split]
  iintro ⟨Hb, ⟨Ho, Hs, Hr⟩, Hi⟩
  isplitl [Hb]; · iapply (ended_one m c none); iexact Hb
  isplitl [Ho Hs Hr]
  · isplitl [Ho]; · iapply (ended_one m c (some 72)); iexact Ho
    isplitl [Hs]; · iapply hs; iexact Hs
    iapply hr; iexact Hr
  iapply hi; iexact Hi

omit [FloatOps F] in
/-- What the body ends with. -/
theorem finish (K : Dev nD × CI → ℕ) (c : Dev nD) :
    iprop(ctx m K ∗ Mid m c 2 81 ∗ idle c)
      ⊢ iprop(|={Set.univ}=> ((∃ W, owes (c : Thread nD τ) 0 W)
        ∗ ((inLoc c ↦{fullShare} m (inLoc c)) ∗ (outLoc c ↦{fullShare} (G m : Buf (Elt F) (outLoc c))))
        ∗ bigSep Finset.univ fun i : CI => semVal (kcell (c, i)) 0)) := by
  unfold Mid St ownPart
  rw [owed_end]
  iintro ⟨#Hctx, ⟨⟨Hb, Hp, Ho⟩, HO, Hs, Hr, Hu⟩, Hi⟩
  ihave He := (cells_end m c) $$ [Hb Ho Hs Hr Hi]
  · isplitl [Hb]; · iexact Hb
    isplitl [Ho Hs Hr]
    · isplitl [Ho]; · iexact Ho
      isplitl [Hs] <;> iassumption
    iexact Hi
  imod (close_all m K c) $$ [He] with Hz
  · isplitr; · iexact Hctx
    iexact He
  imodintro
  isplitl [HO]; · iexact HO
  isplitl [Hp Hu]
  · iapply (arrays_end m c)
    isplitl [Hp] <;> iassumption
  iexact Hz

end Cert.Gather
-- ==== Proof.Run.lean ====
/-
The launch: all devices run the body, and in the end every device holds the whole array.
-/
module

public import proofs.«01_k».proof.Proof.Whole
public import proofs.«01_k».proof.Proof.Finish
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body within the launch -/

/-- What a device has when its body starts, -/
def start (c : Dev nD) : sProp 𝕄 := iprop(∃ K, ctx m K ∗ Hold m c ∗ idle c)
/-- and what it is left with: its block, the gathered array, the barrier at zero -/
def left (c : Dev nD) : sProp 𝕄 :=
  iprop(((inLoc c ↦{fullShare} m (inLoc c)) ∗ (outLoc c ↦{fullShare} (G m : Buf (Elt F) (outLoc c)))) ∗ unscopedSems0 c)
/-- and its transfers' semaphores. -/
abbrev osem : Fin 73 → SemLoc sig := fun q => .dma q

/-- The launch's data: no windows; what is owed at the start. -/
def dats (_ : Fin 1) (c : Dev nD) : Dat τ (Elt F) Unit ℕ UU ℕ cfg0 c where
  A w := w.elim0
  after w _ := w.elim0
  Φ t := match t with
    | ⟨0, _⟩ => start m c
    | ⟨_ + 1, _⟩ => iprop(left m c ∗ Pipeline.ownSems0 osem c)
  q _ := fullShare
  owed t := match t with
    | ⟨0, _⟩ => owedSig c 0
    | ⟨_ + 1, _⟩ => 0

omit [FloatOps F] in
/-- The runtime's one semaphore is the barrier's. -/
theorem bar_sems (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's semaphores at zero. -/
theorem sems_eq (c : Dev nD) :
    iprop(unscopedSems0 c ∗ Pipeline.ownSems0 (Ix := Unit) (Name := ℕ) (U := UU) (Lvl := ℕ) (Val := Elt F) (τ := τ) osem c)
      = (bigSep Finset.univ fun i : CI => semVal (kcell (c, i)) 0 : sProp 𝕄) := by
  rw [cells_all, bar_sems]; rfl

/-- The body takes a device from its start to its end. -/
theorem body_sound (c : Dev nD) :
    iprop(start m c ∗ ∃ W, owes (c : Thread nD τ) (owedSig c 0) W)
      ⊢ Wp c (bodyAt0 (F := F) t0_0) (fun _ => iprop((left m c ∗ Pipeline.ownSems0 osem c) ∗ ∃ W, owes (c : Thread nD τ) 0 W)) := by
  unfold start
  iintro ⟨⟨%K, #Hctx, HH, Hi⟩, HO⟩
  iapply (wp_fupd (Fr := Idealize.ShloMosaic.frame) (wpE := wpE (defs₀ (F := F)) 𝒱₀ (c : Thread nD τ) none) (E := Set.univ))
  iapply (body_runs m c K _) $$ [HH HO]
  · isplitr; · iexact Hctx
    unfold Pre
    isplitl [HO] <;> iassumption
  iintro %r - HM
  imod (finish m K c) $$ [HM Hi] with ⟨HO, Ha, Hz⟩
  · isplitr; · iexact Hctx
    isplitl [HM] <;> iassumption
  imodintro
  ihave Hz := (Entails.of_eq (sems_eq c).symm) $$ Hz
  icases Hz with ⟨Hb, Hd⟩
  isplitl [Ha Hb Hd]
  · isplitl [Ha Hb]
    · unfold left; isplitl [Ha] <;> iassumption
    iexact Hd
  iexact HO

set_option maxRecDepth 8000 in
/-- The obligation the launch puts on the body. -/
theorem body_obligation (c : Dev nD) : BodyObligation (dats (F := F) m 0 c) (defs₀ (F := F)) 𝒱₀ () Set.univ := fun t => by
  rw [fin_N0 t]
  show iprop(start m c ∗ (dats m 0 c).owesAt () t0_0.castSucc ∗ bigSep (Finset.univ : Finset (Fin 0)) _)
    ⊢ Wp c (bodyAt0 (F := F) t0_0) (fun _ => iprop((left m c ∗ Pipeline.ownSems0 osem c) ∗ (dats m 0 c).owesAt () t0_0.succ ∗ bigSep (Finset.univ : Finset (Fin 0)) _))
  unfold Dat.owesAt Pipeline.owesWithin
  rw [Finset.univ_eq_empty, bigSep_empty, bigSep_empty]
  refine BIBase.Entails.trans ?_ ((body_sound m c).trans (wp_mono _ _ _ fun _ => ?_))
  · iintro ⟨Hs, ⟨%W, -, HO⟩, -⟩
    isplitl [Hs]; · iexact Hs
    iexists W; iexact HO
  · iintro ⟨Hs, ⟨%W, HO⟩⟩
    isplitl [Hs]; · iexact Hs
    isplitl [HO]
    · iexists W
      isplitr; · ipureintro; exact fun _ _ => Or.inl trivial
      iexact HO
    iempintro

/-! ## Dealing at the launch -/

/-- The launch's own semaphores are the transfers'. -/
theorem ownSemFacts : Pipeline.OwnSemFacts cfg0.spec osem := by decide

/-- Cells are apart. -/
theorem kcell_injective : Function.Injective (kcell : Dev nD × CI → GSem nD τ sig) := by
  rintro ⟨c, i⟩ ⟨d, j⟩ h
  have h1 : c = d := congrArg (fun g : GSem nD τ sig => g.1.1) h
  have h2 : csem i = csem j := congrArg (fun g : GSem nD τ sig => g.2) h
  subst h1
  cases i <;> cases j <;> simp only [csem] at h2
  · rfl
  · cases h2
  · cases h2
  · injection h2 with h2; rw [h2]

/-- All cells, -/
def allCells : Finset (GSem nD τ sig) := Finset.univ.map ⟨kcell, kcell_injective⟩
/-- a right to credit one, -/
def rightOf (p : (Dev nD × CI) × Fin 3) : GSem nD τ sig × ℕ × Fin 3 := (kcell p.1, 0, p.2)
/-- each another, -/
theorem rightOf_injective : Function.Injective rightOf := by
  rintro ⟨p, k⟩ ⟨q, l⟩ h
  have h1 : kcell p = kcell q := congrArg (fun t : GSem nD τ sig × ℕ × Fin 3 => t.1) h
  have h2 : k = l := congrArg (fun t : GSem nD τ sig × ℕ × Fin 3 => t.2.2) h
  rw [kcell_injective h1, h2]
/-- all of them. -/
def allRights : Finset (GSem nD τ sig × ℕ × Fin 3) := Finset.univ.map ⟨rightOf, rightOf_injective⟩

/-- What everything starts from. -/
def u₀ : UU := (initOf (Pipeline.cells cfgs cellOf_inj) (Pipeline.launchToks cfgs cellOf_inj), initOf allCells allRights)

/-- What that is for one device. -/
def dealt (c : Dev nD) : sProp 𝕄 :=
  iprop((bigSep Finset.univ fun i : CI => roundState ER (gathRd m) (kcell (c, i)) 0)
    ∗ ((bigSep Finset.univ fun i : CI => atPos ER (kcell (c, i)) 0 ∅ 0) ∗ bigSep Finset.univ fun i : CI => reached ER (kcell (c, i)) 0) ∗ minted c)
/-- What a device has of its own once the cells are set up, -/
def share (c : Dev nD) : sProp 𝕄 := iprop((bigSep Finset.univ fun i : CI => atPos ER (kcell (c, i)) 0 ∅ 0) ∗ rights c)
/-- with what all know. -/
def ready (c : Dev nD) : sProp 𝕄 := iprop(∃ K, records m K ∗ share c)

omit [FloatOps F] in
/-- The start dealt to the devices. -/
theorem deal_start : BI.own (ER (initOf allCells allRights)) ⊢ (|==> bigSep Finset.univ (dealt m) : sProp 𝕄) := by
  have hX (Φ : GSem nD τ sig → sProp 𝕄) : bigSep allCells Φ = bigSep Finset.univ fun c : Dev nD => bigSep Finset.univ fun i : CI => Φ (kcell (c, i)) := by
    unfold allCells; rw [bigSep_map, bigSep_univ_prod]; rfl
  have hT : bigSep allRights (fun x => (dutyTok ER x.1 x.2.1 x.2.2 : sProp 𝕄)) = bigSep Finset.univ fun c : Dev nD => minted c := by
    unfold allRights minted; rw [bigSep_map, bigSep_univ_prod, bigSep_univ_prod]; rfl
  iintro HX
  imod (Rounds.fund ER (gathRd m) allCells allRights) $$ HX with ⟨Hst, Hr, Hat, Htok⟩
  imodintro
  ihave Hst := (Entails.of_eq (hX fun g => roundState ER (gathRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hat Hr]
  · isplitl [Hat] <;> iassumption
  iexact Htok

omit [FloatOps F] in
/-- A device's cells are set up from its semaphores. -/
theorem set_up (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun i : CI => iprop(∃ κ : ℕ, cellInv ER (gathRd m) κ (kcell (c, i))))
        ∗ ((bigSep Finset.univ fun i : CI => atPos ER (kcell (c, i)) 0 ∅ 0) ∗ bigSep Finset.univ fun i : CI => reached ER (kcell (c, i)) 0) ∗ minted c) := by
  unfold dealt
  iintro ⟨Ho, Hu, Hst, Hat, Htok⟩
  ihave Hv := (Entails.of_eq (sems_eq c)) $$ [Ho Hu]
  · isplitl [Hu] <;> iassumption
  imod (show iprop((bigSep Finset.univ fun i : CI => semVal (kcell (c, i)) 0) ∗ bigSep Finset.univ fun i : CI => roundState ER (gathRd m) (kcell (c, i)) 0)
      ⊢ (|={Set.univ}=> bigSep Finset.univ fun i : CI => iprop(∃ κ : ℕ, cellInv ER (gathRd m) κ (kcell (c, i))) : sProp 𝕄) from by
        rw [← bigSep_sep']
        exact (bigSep_mono fun i _ => (Rounds.body_intro ER (gathRd m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
/-- With all devices' cells set up, every device knows them all, and every right is where it is used. -/
theorem hand_out :
    (bigSep Finset.univ fun c : Dev nD => iprop((bigSep Finset.univ fun i : CI => iprop(∃ κ : ℕ, cellInv ER (gathRd m) κ (kcell (c, i))))
        ∗ ((bigSep Finset.univ fun i : CI => atPos ER (kcell (c, i)) 0 ∅ 0) ∗ bigSep Finset.univ fun i : CI => reached ER (kcell (c, i)) 0) ∗ minted c) : sProp 𝕄)
      ⊢ bigSep Finset.univ (ready m) := by
  rw [bigSep_sep', bigSep_sep', bigSep_sep', ← bigSep_univ_prod (fun p : Dev nD × CI => iprop(∃ κ : ℕ, cellInv ER (gathRd m) κ (kcell p))),
    ← bigSep_univ_prod (fun p : Dev nD × CI => (reached ER (kcell p) 0 : sProp 𝕄))]
  iintro ⟨HI, ⟨Hat, #HR⟩, Htok⟩
  ihave HK := (BI.bigSep_exists_pi Finset.univ (fun (p : Dev nD × CI) (κ : ℕ) => (cellInv ER (gathRd m) κ (kcell p) : sProp 𝕄))) $$ HI
  icases HK with ⟨%K, #HI⟩
  ihave Htk := (rights_dealt (F := F)) $$ Htok
  have h : ∀ c ∈ (Finset.univ : Finset (Dev nD)), iprop(records m K ∗ share (F := F) c) ⊢ ready m c := fun c _ => by
    unfold ready; iintro H; iexists K; iexact H
  iapply (each h)
  isplitr
  · unfold records; isplitl; · iexact HI
    iexact HR
  unfold share
  rw [bigSep_sep']
  isplitl [Hat]; · iexact Hat
  iexact Htk

omit [FloatOps F] in
/-- The whole set‑up. -/
theorem glob :
    (bigSep Finset.univ fun c => iprop(Pipeline.ownSems0 (Ix := Unit) (Name := ℕ) (U := UU) (Lvl := ℕ) (Val := Elt F) (τ := τ) osem c ∗ unscopedSems0 c ∗ dealt m c) : sProp 𝕄)
      ⊢ |={Set.univ}=> bigSep Finset.univ (ready m) :=
  ((bigSep_mono fun c _ => set_up m c).trans (bigSep_fupd _ _)).trans (BI.fupd_mono (hand_out m))

/-! ## A device's start -/

omit [FloatOps F] in
/-- A device's rights and positions, as its steps use them. -/
theorem hold_intro (c : Dev nD) :
    iprop(share (F := F) c
        ∗ (cred (tallyAt (barCell c) () 3) ∗ bigSep Finset.univ fun x : Xf => cred (tallyAt (rCell c x) () (amt x)))
        ∗ ((∃ f, outLoc c ↦[outRows (1024 * c.val) (1024 * c.val + 1024)]{fullShare} f) ∗ (inLoc c ↦{fullShare.left} m (inLoc c)))
        ∗ bigSep (bits (held c 0)) (unit m c (G m)) ∗ (giveAway m c 0 ∗ giveAway m c 1 ∗ giveAway m c 2))
      ⊢ iprop(Hold m c ∗ idle c) := by
  have hs : iprop((bigSep Finset.univ fun x : Xf => dutyTok ER (sCell c x) 0 0) ∗ (bigSep Finset.univ fun x : Xf => dutyTok ER (rCell (tgt c x) x) 0 0)
      ∗ bigSep Finset.univ fun x : Xf => atPos ER (sCell c x) 0 ∅ 0) ⊢ bigSep Finset.univ (sendPre (F := F) c) := by
    unfold sendPre; rw [bigSep_sep', bigSep_sep']
  have hr : iprop((bigSep Finset.univ fun x : Xf => cred (tallyAt (rCell c x) () (amt x))) ∗ bigSep Finset.univ fun x : Xf => atPos ER (rCell c x) 0 ∅ 0)
      ⊢ bigSep Finset.univ (recvPart (F := F) c 0) := by
    rw [← bigSep_sep']
    exact bigSep_mono fun x _ => by rw [recvPart, if_pos (Nat.zero_le _)]; exact Idealize.SL.BI.Entails.refl _
  unfold share rights Hold sigPart ownPart
  rw [cells_all, cells_split, three]
  iintro ⟨⟨⟨Hb, ⟨Ho, Hs, Hr⟩, Hi⟩, ⟨Hb0, Hb1, Hb2⟩, Hto, Hts, Htr⟩, ⟨Hcb, Hcr⟩, ⟨Hout, Hin⟩, Hu, ⟨Hg0, Hg1, Hg2⟩⟩
  isplitr [Hi]
  · isplitl [Hb0 Hb1 Hb2 Hg0 Hg1 Hg2]
    · isplitl [Hb0 Hg1]
      · isplitl [Hb0]; · iexact Hb0
        iexact Hg1
      isplitl [Hb1 Hg0]
      · isplitl [Hb1]; · iexact Hb1
        iexact Hg0
      isplitl [Hb2]; · iexact Hb2
      iexact Hg2
    isplitl [Hcb Hb]
    · isplitl [Hcb]; · iexact Hcb
      iexact Hb
    isplitl [Hto Hout Hin Ho]
    · isplitl [Hto]; · iexact Hto
      isplitl [Hout]; · iexact Hout
      isplitl [Hin]; · iexact Hin
      iexact Ho
    isplitl [Hts Htr Hs]
    · iapply hs
      isplitl [Hts]; · iexact Hts
      isplitl [Htr]; · iexact Htr
      iexact Hs
    isplitl [Hcr Hr]
    · iapply hr
      isplitl [Hcr]; · iexact Hcr
      iexact Hr
    iexact Hu
  unfold idle
  iexact Hi

omit [FloatOps F] in
/-- A device's start from what the launch gives it. -/
theorem start_intro (c : Dev nD) :
    iprop(Pipeline.unscopedRestP Pipeline.Prefetch.none cfg0.spec c (fun b => m ((c : Thread nD τ).loc b)) ∗ levAts L lv
        ∗ Pipeline.launchCred (fun d => owedSig d 0) c ∗ prngReg c (ρ c) ∗ ready m c)
      ⊢ |={Set.univ}=> iprop(start m c ∗ emp) := by
  rw [Pipeline.unscopedRestP_none, unscopedRest0_eq]
  iintro ⟨Ha, Hlev, Hcr, -, HG⟩
  ihave Hc := (creds (F := F) c) $$ Hcr
  ihave Ha := (arrays_dealt m c) $$ Ha
  icases Ha with ⟨Ha, Hu, Hg⟩
  unfold ready
  icases HG with ⟨%K, #HR, Hsh⟩
  ihave H := (hold_intro m c) $$ [Hsh Hc Ha Hu Hg]
  · isplitl [Hsh]; · iexact Hsh
    isplitl [Hc]; · iexact Hc
    isplitl [Ha]; · iexact Ha
    isplitl [Hu]; · iexact Hu
    iexact Hg
  imodintro
  isplitl
  · unfold start ctx
    iexists K
    isplitl [Hlev]
    · isplitr; · iexact HR
      iexact Hlev
    iexact H
  iempintro

/-! ## The run -/

set_option maxRecDepth 8000 in
/-- From any memory with all counters at zero the launch ends with every device's array complete, its block unchanged and
    all counters at zero again. -/
theorem run_main :
    θ_run defs (onTc (τ := τ) (main (F := F))) ⟨m, fun _ => 0, ρ⟩
      (fun r => (∀ c : Dev nD, r.2.mem (outLoc c) = (G m : Buf (Elt F) (outLoc c)) ∧ r.2.mem (inLoc c) = m (inLoc c)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := fun c => owedSig c 0) (howed₀ := fun _ => rfl) (howedN := fun _ => rfl)
    (L := L) (lv := lv) (hL := L_of_ne)
    (hwaits := fun c => Pipeline.cellsWaits_intro cfgs (dats m) () 0 c fun w => w.elim0)
    (G := dealt m) (G' := ready m) (u₀ := u₀)
    (hu₀ := by
      unfold u₀
      iintro Hu
      ihave H := (ownU_pair _ _) $$ Hu
      icases H with ⟨HP, HX⟩
      imod (deal_start m) $$ HX with HG
      imodintro
      isplitl [HP] <;> iassumption)
    (hglob := glob m)
    (hA := fun _ w => w.elim0) (hpf := fun _ k => k.elim0)
    (X := start m) (Y := left m) (Z := fun _ => iprop(emp))
    (hX := start_intro m ρ)
    (hin := fun c => by
      show iprop(start m c ∗ _ ∗ _) ⊢ start m c
      iintro ⟨H, -, -⟩; iexact H)
    (hout := fun c => by
      show iprop(left m c ∗ Pipeline.ownSems0 osem c) ⊢ _
      rw [scopedRest0_eq]
      iintro ⟨H, H'⟩
      isplitl [H]; · iexact H
      isplitl [H']; · iexact H'
      iempintro)
    (QY := fun c s => (s.mem (outLoc c) = (G m : Buf (Elt F) (outLoc c)) ∧ s.mem (inLoc c) = m (inLoc c))
      ∧ ∀ sm : SemLoc sig, sm.isScoped .tc = false → s.sem ((c.tc : Thread nD τ), sm) = 0)
    (hY := fun c s' => by
      unfold left
      iintro ⟨⟨⟨Hi, Ho⟩, Hu⟩, -, HSI⟩
      icombine HSI Hi gives %hi
      icombine HSI Ho gives %ho
      imod (Pipeline.unscopedSems0_read (X := unscopedSems0 c) (c := c) fupd_intro s') $$ [Hu HSI] with ⟨%hs, HSI⟩
      · isplitl [Hu] <;> iassumption
      imodintro
      isplitr
      · ipureintro
        exact ⟨⟨Buf.eq_of_forall_mem_univ ho, Buf.eq_of_forall_mem_univ hi⟩, hs⟩
      iexact HSI)
    (hQ := fun _ h hs => ⟨fun c => (h c).2.2.1, sem_eq_zero hs fun c => (h c).2.2.2⟩)

end Cert.Gather
-- ==== Proof.Value.lean ====
/-
The values: the gathered array is the reference's whole array, and the reference leaves its argument alone.
-/
module

public import proofs.«01_k».proof.Proof.Run
public import proofs.«01_k».proof.Proof.Gen.ReferenceIdeal
public import Idealize.ShloMosaic.Lib.StableHlo.Run
public import Idealize.ShloMosaic.Lib.Layout

@[expose] public section

noncomputable section

namespace Cert.Gather

open Idealize.ShloMosaic Idealize.ShloMosaic.TcCoe Idealize.SL.Sem

variable {F : FTy → Type} [FloatOps F]

section
open Cert.KernelIdeal

variable (m : (ℓ : Loc nD τ sig) → Buf (Elt F) ℓ)

omit [FloatOps F] in
/-- If every device starts with its block of the whole array, what is gathered is the whole array: row `i` sits in the
    block of device `i / 1024`, at row `i % 1024` of it. -/
theorem gathered_eq (v : S8192x512.Idx → Elt F .f32) (h : Layout.Tiles S1024x512 S8192x512 0 8)
    (hm : ∀ c : Dev nD, m (inLoc c) = Layout.block S1024x512 S8192x512 0 8 c v h) : G m = v := by
  funext i
  have e : h.idx (rowDev i) (rowIdx i) = i := by
    funext b
    apply Fin.ext
    match b with
    | 0 => exact Nat.div_add_mod' (i 0).val 1024
    | 1 => rfl
  calc G m i = Layout.block S1024x512 S8192x512 0 8 (rowDev i) v h (rowIdx i) := congrFun (hm (rowDev i)) (rowIdx i)
    _ = v i := congrArg v e

end

namespace Whole

open Cert.ReferenceIdeal

/-- The reference has no operation at all: it returns its argument. So it ends with the memory it started with. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0))
        ∧ r.2.sem = fun _ => 0 :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Whole

end Cert.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.SL.Sem Cert.Kernel

/-- The program at the machine's own floats: it moves values without reading them, so its run is the one proved for any
    floats. -/
theorem frame_kernel : Cert.quiescent_Kernel (hKernel := Cert.Kernel.Gen.facts) := fun m ρ _ =>
  (θ_run Cert.KernelIdeal.defs _ _).mono (fun _ h => ⟨fun c => (h.1 c).2, h.2⟩) (Cert.Gather.run_main (F := Bits) m ρ)

/-- The same at exact floats. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.Gather.run_main (F := Ideal) m ρ)

/-- The reference returns its argument. -/
theorem frame_reference : Cert.quiescent_ReferenceIdeal (hReferenceIdeal := Cert.ReferenceIdeal.Gen.facts) := fun m ρ _ =>
  Cert.Gather.Whole.run_main (F := Ideal) m ρ

/-- Every device ends with the reference's whole array. -/
theorem gathers : Cert.algebraic_KernelIdeal_ReferenceIdeal (hKernelIdeal := Cert.KernelIdeal.Gen.facts)
    (hReferenceIdeal := Cert.ReferenceIdeal.Gen.facts) := fun m ρ m' ρ' _ hm =>
  ⟨_, (θ_run Cert.KernelIdeal.defs _ _).mono
      (fun _ h c => ⟨(h.1 c).1.trans (Cert.Gather.gathered_eq m _ _ hm), (h.1 c).2⟩) (Cert.Gather.run_main (F := Ideal) m ρ),
    (θ_run Cert.ReferenceIdeal.defs _ _).mono (fun _ h => ⟨h.1 0, h.1 0⟩) (Cert.Gather.Whole.run_main (F := Ideal) m' ρ')⟩

/-- All the claims. -/
theorem claim : Cert.Claim :=
  ⟨Cert.Kernel.Gen.facts, Cert.KernelIdeal.Gen.facts, Cert.ReferenceIdeal.Gen.facts,
    frame_kernel, frame_ideal, frame_reference, trivial, gathers⟩

end Cert.Proof

end
